-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S4096x40 : Shape := ⟨2, ![4096, 40]⟩
abbrev S4096 : Shape := ⟨1, ![4096]⟩
abbrev S4096x64x64 : Shape := ⟨3, ![4096, 64, 64]⟩
abbrev S4096x1024 : Shape := ⟨2, ![4096, 1024]⟩
abbrev S_ : Shape := ⟨0, ![]⟩

class Facts : Prop where
  bcast_S_S4096 : S_.BroadcastsInDim S4096 (![] : Fin 0 → Fin S4096.rank)
  bcast_S_S4096x64x64 : S_.BroadcastsInDim S4096x64x64 (![] : Fin 0 → Fin S4096x64x64.rank)
  bcast_S_S4096x1024 : S_.BroadcastsInDim S4096x1024 (![] : Fin 0 → Fin S4096x1024.rank)

variable [Facts]

def fn {F : FTy → Type} [FloatOps F] (main_arg0 : FVec F S4096x40 .f32) (main_arg1 : IVec S4096 32) (main_arg2 : FVec F S4096x64x64 .f32) (main_arg3 : FVec F S4096x1024 .f32) (main_arg4 : FVec F S4096x1024 .f32) : IVec S4096 1 × IVec S4096x64x64 1 × IVec S4096x1024 1 × IVec S4096x1024 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 40#32
  let main_v2 : IVec S4096 32 := broadcastInDim S4096 ![] bcast_S_S4096 main_c_0
  let main_v3 : IVec S4096 1 := cmpi .slt main_arg1 main_v2
  let main_v4 : IVec S4096 1 := andi main_v1 main_v3
  let main_v5 : FVec F S4096x64x64 .f32 := Host.absf main_arg2
  let main_cst : FVec F S_ .f32 := constant S_ .f32 0x7F800000#32
  let main_v6 : FVec F S4096x64x64 .f32 := broadcastInDim S4096x64x64 ![] bcast_S_S4096x64x64 main_cst
  let main_v7 : IVec S4096x64x64 1 := cmpf .olt main_v5 main_v6
  let main_v8 : FVec F S4096x1024 .f32 := Host.absf main_arg3
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg4
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  (main_v4, main_v7, main_v10, main_v13)
-- ==== Kernel.lean ====
abbrev S4096x40 : Shape := ⟨2, ![4096, 40]⟩
abbrev S4096 : Shape := ⟨1, ![4096]⟩
abbrev S4096x64x64 : Shape := ⟨3, ![4096, 64, 64]⟩
abbrev S4096x1024 : Shape := ⟨2, ![4096, 1024]⟩
abbrev S4096x1 : Shape := ⟨2, ![4096, 1]⟩
abbrev S1x1x1024 : Shape := ⟨3, ![1, 1, 1024]⟩
abbrev S1x1x128 : Shape := ⟨3, ![1, 1, 128]⟩
abbrev S256x40 : Shape := ⟨2, ![256, 40]⟩
abbrev S256x1 : Shape := ⟨2, ![256, 1]⟩
abbrev S256x64x64 : Shape := ⟨3, ![256, 64, 64]⟩
abbrev S256x1024 : Shape := ⟨2, ![256, 1024]⟩
abbrev S1x256x40 : Shape := ⟨3, ![1, 256, 40]⟩
abbrev S1 : Shape := ⟨1, ![1]⟩
abbrev S1x1x1 : Shape := ⟨3, ![1, 1, 1]⟩
abbrev S256x64 : Shape := ⟨2, ![256, 64]⟩
abbrev S256 : Shape := ⟨1, ![256]⟩
abbrev S1x256x1 : Shape := ⟨3, ![1, 256, 1]⟩
abbrev S1024 : Shape := ⟨1, ![1024]⟩
abbrev S1x1024 : Shape := ⟨2, ![1, 1024]⟩
abbrev S_ : Shape := ⟨0, ![]⟩
abbrev S1x4096 : Shape := ⟨2, ![1, 4096]⟩
abbrev S1024x1024 : Shape := ⟨2, ![1024, 1024]⟩
abbrev S1024x1 : Shape := ⟨2, ![1024, 1]⟩
abbrev S1x256 : Shape := ⟨2, ![1, 256]⟩
abbrev S256x256 : Shape := ⟨2, ![256, 256]⟩
abbrev S1x1x256 : Shape := ⟨3, ![1, 1, 256]⟩

abbrev nBuf : Space → Nat
  | .hbm => 78
  | .vmem => 43
  | .smem => 0
  | _ => 0

abbrev bufTy : (tb : Table) → Fin (tcTables nBuf tb) → BufTy
  | .hbm, ⟨0, _⟩ => ⟨S4096x40, .f32⟩
  | .hbm, ⟨1, _⟩ => ⟨S4096, .i32⟩
  | .hbm, ⟨2, _⟩ => ⟨S4096x64x64, .f32⟩
  | .hbm, ⟨3, _⟩ => ⟨S4096x1024, .f32⟩
  | .hbm, ⟨4, _⟩ => ⟨S4096x1024, .f32⟩
  | .hbm, ⟨5, _⟩ => ⟨S4096x1, .i32⟩
  | .hbm, ⟨6, _⟩ => ⟨S4096x1, .f32⟩
  | .hbm, ⟨7, _⟩ => ⟨S4096x1, .f32⟩
  | .hbm, ⟨8, _⟩ => ⟨S1x1x1024, .f32⟩
  | .hbm, ⟨9, _⟩ => ⟨S1x1x128, .f32⟩
  | .hbm, ⟨10, _⟩ => ⟨S1x1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1x1, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S1x4096, .f32⟩
  | .hbm, ⟨54, _⟩ => ⟨S1x4096, .f32⟩
  | .hbm, ⟨55, _⟩ => ⟨S1x1x128, .f32⟩
  | .hbm, ⟨56, _⟩ => ⟨S1x1x1, .f32⟩
  | .hbm, ⟨57, _⟩ => ⟨S_, .f32⟩
  | .hbm, ⟨58, _⟩ => ⟨S1x1x128, .f32⟩
  | .hbm, ⟨59, _⟩ => ⟨S1x1x1, .f32⟩
  | .hbm, ⟨60, _⟩ => ⟨S_, .f32⟩
  | .hbm, ⟨61, _⟩ => ⟨S1x1x128, .f32⟩
  | .hbm, ⟨62, _⟩ => ⟨S1x1x1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S256x40, .f32⟩
  | .local _ .vmem, ⟨1, _⟩ => ⟨S256x40, .f32⟩
  | .local _ .vmem, ⟨2, _⟩ => ⟨S256x1, .i32⟩
  | .local _ .vmem, ⟨3, _⟩ => ⟨S256x1, .i32⟩
  | .local _ .vmem, ⟨4, _⟩ => ⟨S256x64x64, .f32⟩
  | .local _ .vmem, ⟨5, _⟩ => ⟨S256x64x64, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S1x1x1024, .f32⟩
  | .local _ .vmem, ⟨15, _⟩ => ⟨S1x1x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1, .f32⟩
  | .local _ .vmem, ⟨21, _⟩ => ⟨S1024x1, .f32⟩
  | .local _ .vmem, ⟨22, _⟩ => ⟨S1x1024, .f32⟩
  | .local _ .vmem, ⟨23, _⟩ => ⟨S1x1024, .f32⟩
  | .local _ .vmem, ⟨24, _⟩ => ⟨S1x1x128, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1, .f32⟩
  | .local _ .vmem, ⟨30, _⟩ => ⟨S1024x1, .f32⟩
  | .local _ .vmem, ⟨31, _⟩ => ⟨S1x1024, .f32⟩
  | .local _ .vmem, ⟨32, _⟩ => ⟨S1x1024, .f32⟩
  | .local _ .vmem, ⟨33, _⟩ => ⟨S1x1x128, .f32⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1, .f32⟩
  | .local _ .vmem, ⟨39, _⟩ => ⟨S1024x1, .f32⟩
  | .local _ .vmem, ⟨40, _⟩ => ⟨S1x1024, .f32⟩
  | .local _ .vmem, ⟨41, _⟩ => ⟨S1x1024, .f32⟩
  | .local _ .vmem, ⟨42, _⟩ => ⟨S1x1x128, .f32⟩
  | _, _ => ⟨S4096x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![12], ![false]⟩

def cc1_transform_0 (i : grid1.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc1_transform_1 (i : grid1.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.addi v16 v26
  let c4_i32 : BitVec 32 := 4#32
  let c0_i32_10 : BitVec 32 := 0#32
  let v28 : BitVec 1 := Scalar.cmpi .eq c4_i32 c0_i32_10
  let c1_i32_11 : BitVec 32 := 1#32
  let v29 : BitVec 32 := Scalar.select v28 c1_i32_11 c4_i32
  let v30 : BitVec 32 := Scalar.remsi v27 v29
  let c0_i32_12 : BitVec 32 := 0#32
  let v31 : BitVec 1 := Scalar.cmpi .ne v30 c0_i32_12
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let v35 : BitVec 1 := Scalar.andi v34 v31
  let v36 : BitVec 32 := Scalar.addi v30 v29
  let v37 : BitVec 32 := Scalar.select v35 v36 v30
  let c0_i32_15 : BitVec 32 := 0#32
  let c0_i32_16 : BitVec 32 := 0#32
  ![v37.toNat, c0_i32_15.toNat]

def cc1_transform_2 (i : grid1.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc1_transform_3 (i : grid1.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.addi v16 v26
  let c4_i32 : BitVec 32 := 4#32
  let c0_i32_10 : BitVec 32 := 0#32
  let v28 : BitVec 1 := Scalar.cmpi .eq c4_i32 c0_i32_10
  let c1_i32_11 : BitVec 32 := 1#32
  let v29 : BitVec 32 := Scalar.select v28 c1_i32_11 c4_i32
  let v30 : BitVec 32 := Scalar.remsi v27 v29
  let c0_i32_12 : BitVec 32 := 0#32
  let v31 : BitVec 1 := Scalar.cmpi .ne v30 c0_i32_12
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let v35 : BitVec 1 := Scalar.andi v34 v31
  let v36 : BitVec 32 := Scalar.addi v30 v29
  let v37 : BitVec 32 := Scalar.select v35 v36 v30
  let c0_i32_15 : BitVec 32 := 0#32
  let c0_i32_16 : BitVec 32 := 0#32
  ![c0_i32_15.toNat, v37.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![12], ![false]⟩

def cc2_transform_0 (i : grid2.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc2_transform_1 (i : grid2.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.addi v16 v26
  let c4_i32 : BitVec 32 := 4#32
  let c0_i32_10 : BitVec 32 := 0#32
  let v28 : BitVec 1 := Scalar.cmpi .eq c4_i32 c0_i32_10
  let c1_i32_11 : BitVec 32 := 1#32
  let v29 : BitVec 32 := Scalar.select v28 c1_i32_11 c4_i32
  let v30 : BitVec 32 := Scalar.remsi v27 v29
  let c0_i32_12 : BitVec 32 := 0#32
  let v31 : BitVec 1 := Scalar.cmpi .ne v30 c0_i32_12
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let v35 : BitVec 1 := Scalar.andi v34 v31
  let v36 : BitVec 32 := Scalar.addi v30 v29
  let v37 : BitVec 32 := Scalar.select v35 v36 v30
  let c0_i32_15 : BitVec 32 := 0#32
  let c0_i32_16 : BitVec 32 := 0#32
  ![v37.toNat, c0_i32_15.toNat]

def cc2_transform_2 (i : grid2.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc2_transform_3 (i : grid2.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.addi v16 v26
  let c4_i32 : BitVec 32 := 4#32
  let c0_i32_10 : BitVec 32 := 0#32
  let v28 : BitVec 1 := Scalar.cmpi .eq c4_i32 c0_i32_10
  let c1_i32_11 : BitVec 32 := 1#32
  let v29 : BitVec 32 := Scalar.select v28 c1_i32_11 c4_i32
  let v30 : BitVec 32 := Scalar.remsi v27 v29
  let c0_i32_12 : BitVec 32 := 0#32
  let v31 : BitVec 1 := Scalar.cmpi .ne v30 c0_i32_12
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let v35 : BitVec 1 := Scalar.andi v34 v31
  let v36 : BitVec 32 := Scalar.addi v30 v29
  let v37 : BitVec 32 := Scalar.select v35 v36 v30
  let c0_i32_15 : BitVec 32 := 0#32
  let c0_i32_16 : BitVec 32 := 0#32
  ![c0_i32_15.toNat, v37.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc3_transform_1 (i : grid3.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_2 (i : grid3.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc3_transform_3 (i : grid3.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]
-- ==== ReferenceIdeal.lean ====
abbrev S4096x40 : Shape := ⟨2, ![4096, 40]⟩
abbrev S4096 : Shape := ⟨1, ![4096]⟩
abbrev S4096x64x64 : Shape := ⟨3, ![4096, 64, 64]⟩
abbrev S4096x1024 : Shape := ⟨2, ![4096, 1024]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S64x64 : Shape := ⟨2, ![64, 64]⟩
abbrev S1x64x64 : Shape := ⟨3, ![1, 64, 64]⟩
abbrev S8192x1024 : Shape := ⟨2, ![8192, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x8192 : Shape := ⟨2, ![1024, 8192]⟩
abbrev S4096x4096 : Shape := ⟨2, ![4096, 4096]⟩

abbrev nBuf : Space → Nat
  | .hbm => 144
  | .vmem => 0
  | .smem => 0
  | _ => 0

abbrev hbmTy0_0 (i : Nat) : BufTy := match i % 128 with
  | 0 => ⟨S4096x40, .f32⟩
  | 1 => ⟨S4096, .i32⟩
  | 2 => ⟨S4096x64x64, .f32⟩
  | 3 => ⟨S4096x1024, .f32⟩
  | 4 => ⟨S4096x1024, .f32⟩
  | 5 => ⟨S4096x1, .i32⟩
  | 6 => ⟨S_, .i32⟩
  | 7 => ⟨S4096x1, .i32⟩
  | 8 => ⟨S4096x1, .i1⟩
  | 9 => ⟨S_, .i32⟩
  | 10 => ⟨S4096x1, .i32⟩
  | 11 => ⟨S4096x1, .i32⟩
  | 12 => ⟨S4096x1, .i32⟩
  | 13 => ⟨S4096x1x1, .i32⟩
  | 14 => ⟨S1, .i32⟩
  | 15 => ⟨S_, .i32⟩
  | 16 => ⟨S4096x1x1, .i32⟩
  | 17 => ⟨S4096x1x1, .i1⟩
  | 18 => ⟨S1x1x1, .i32⟩
  | 19 => ⟨S4096x1x1, .i32⟩
  | 20 => ⟨S4096x1x1, .i1⟩
  | 21 => ⟨S4096x1x1, .i1⟩
  | 22 => ⟨S_, .i1⟩
  | 23 => ⟨S4096x1, .i1⟩
  | 24 => ⟨S4096x1, .f32⟩
  | 25 => ⟨S_, .f32⟩
  | 26 => ⟨S4096x1, .f32⟩
  | 27 => ⟨S4096x1, .f32⟩
  | 28 => ⟨S_, .f32⟩
  | 29 => ⟨S_, .f32⟩
  | 30 => ⟨S_, .f32⟩
  | 31 => ⟨S_, .f32⟩
  | 32 => ⟨S_, .f32⟩
  | 33 => ⟨S64x64, .i32⟩
  | 34 => ⟨S64x64, .i32⟩
  | 35 => ⟨S_, .i32⟩
  | 36 => ⟨S64x64, .i32⟩
  | 37 => ⟨S64x64, .i32⟩
  | 38 => ⟨S64x64, .i1⟩
  | 39 => ⟨S64x64, .f32⟩
  | 40 => ⟨S4096x64x64, .f32⟩
  | 41 => ⟨S1x64x64, .f32⟩
  | 42 => ⟨S4096x64x64, .f32⟩
  | 43 => ⟨S4096x64x64, .f32⟩
  | 44 => ⟨S4096x64x64, .f32⟩
  | 45 => ⟨S_, .f32⟩
  | 46 => ⟨S4096, .f32⟩
  | 47 => ⟨S4096, .f32⟩
  | 48 => ⟨S_, .f32⟩
  | 49 => ⟨S_, .f32⟩
  | 50 => ⟨S_, .f32⟩
  | 51 => ⟨S_, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S1x8192, .f32⟩
  | 58 => ⟨S8192x8192, .f32⟩
  | 59 => ⟨S8192x8192, .f32⟩
  | 60 => ⟨S8192x8192, .f32⟩
  | 61 => ⟨S1024x8192, .f32⟩
  | 62 => ⟨S8192x8192, .f32⟩
  | 63 => ⟨S_, .f32⟩
  | 64 => ⟨S8192x8192, .f32⟩
  | 65 => ⟨S8192x8192, .f32⟩
  | 66 => ⟨S8192x8192, .f32⟩
  | 67 => ⟨S_, .f32⟩
  | 68 => ⟨S8192x8192, .f32⟩
  | 69 => ⟨S8192x8192, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S8192x8192, .f32⟩
  | 78 => ⟨S8192x8192, .f32⟩
  | 79 => ⟨S_, .f32⟩
  | 80 => ⟨S_, .f32⟩
  | 81 => ⟨S8192x8192, .f32⟩
  | 82 => ⟨S8192x8192, .f32⟩
  | 83 => ⟨S8192x8192, .f32⟩
  | 84 => ⟨S8192x8192, .f32⟩
  | 85 => ⟨S8192x8192, .f32⟩
  | 86 => ⟨S_, .f32⟩
  | 87 => ⟨S_, .f32⟩
  | 88 => ⟨S8192x8192, .f32⟩
  | 89 => ⟨S8192x8192, .f32⟩
  | 90 => ⟨S8192x8192, .f32⟩
  | 91 => ⟨S8192x8192, .f32⟩
  | 92 => ⟨S8192x8192, .f32⟩
  | 93 => ⟨S_, .f32⟩
  | 94 => ⟨S_, .f32⟩
  | 95 => ⟨S8192x8192, .f32⟩
  | 96 => ⟨S8192x8192, .f32⟩
  | 97 => ⟨S8192x8192, .f32⟩
  | 98 => ⟨S8192x8192, .f32⟩
  | 99 => ⟨S8192x8192, .f32⟩
  | 100 => ⟨S_, .f32⟩
  | 101 => ⟨S_, .f32⟩
  | 102 => ⟨S8192x8192, .f32⟩
  | 103 => ⟨S8192x8192, .f32⟩
  | 104 => ⟨S8192x8192, .f32⟩
  | 105 => ⟨S8192x8192, .f32⟩
  | 106 => ⟨S8192x8192, .f32⟩
  | 107 => ⟨S_, .f32⟩
  | 108 => ⟨S_, .f32⟩
  | 109 => ⟨S8192x8192, .f32⟩
  | 110 => ⟨S8192x8192, .f32⟩
  | 111 => ⟨S8192x8192, .f32⟩
  | 112 => ⟨S8192x8192, .f32⟩
  | 113 => ⟨S4096x4096, .f32⟩
  | 114 => ⟨S_, .f32⟩
  | 115 => ⟨S_, .f32⟩
  | 116 => ⟨S_, .f32⟩
  | 117 => ⟨S_, .f32⟩
  | 118 => ⟨S4096x4096, .f32⟩
  | 119 => ⟨S_, .f32⟩
  | 120 => ⟨S_, .f32⟩
  | 121 => ⟨S_, .f32⟩
  | 122 => ⟨S_, .f32⟩
  | 123 => ⟨S4096x4096, .f32⟩
  | 124 => ⟨S_, .f32⟩
  | 125 => ⟨S_, .f32⟩
  | 126 => ⟨S_, .f32⟩
  | 127 => ⟨S_, .f32⟩
  | _ => ⟨S4096x40, .f32⟩

abbrev hbmTy0_1 (i : Nat) : BufTy := match i % 128 with
  | 0 => ⟨S4096x4096, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S4096x40, .f32⟩

abbrev hbmTy (i : Nat) : BufTy := match i / 128 with
  | 0 => hbmTy0_0 i
  | 1 => hbmTy0_1 i
  | _ => ⟨S4096x40, .f32⟩

abbrev bufTy : (tb : Table) → Fin (tcTables nBuf tb) → BufTy
  | .hbm, ⟨i, _⟩ => hbmTy i
  | _, _ => ⟨S4096x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_cst_9 : Ref sig .tc := ⟨.hbm, 74, rfl⟩
abbrev main_v37 : Ref sig .tc := ⟨.hbm, 75, rfl⟩
abbrev main_cst_10 : Ref sig .tc := ⟨.hbm, 76, rfl⟩
abbrev main_v38 : Ref sig .tc := ⟨.hbm, 77, rfl⟩
abbrev main_v39 : Ref sig .tc := ⟨.hbm, 78, rfl⟩
abbrev main_cst_11 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_12 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_13 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_14 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_15 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_16 : Ref sig .tc := ⟨.hbm, 114, rfl⟩
abbrev main_v70 : Ref sig .tc := ⟨.hbm, 115, rfl⟩
abbrev main_cst_17 : Ref sig .tc := ⟨.hbm, 116, rfl⟩
abbrev main_v71 : Ref sig .tc := ⟨.hbm, 117, rfl⟩
abbrev main_v72 : Ref sig .tc := ⟨.hbm, 118, rfl⟩
abbrev main_cst_18 : Ref sig .tc := ⟨.hbm, 119, rfl⟩
abbrev main_v73 : Ref sig .tc := ⟨.hbm, 120, rfl⟩
abbrev main_cst_19 : Ref sig .tc := ⟨.hbm, 121, rfl⟩
abbrev main_v74 : Ref sig .tc := ⟨.hbm, 122, rfl⟩
abbrev main_v75 : Ref sig .tc := ⟨.hbm, 123, rfl⟩
abbrev main_cst_20 : Ref sig .tc := ⟨.hbm, 124, rfl⟩
abbrev main_v76 : Ref sig .tc := ⟨.hbm, 125, rfl⟩
abbrev main_cst_21 : Ref sig .tc := ⟨.hbm, 126, rfl⟩
abbrev main_v77 : Ref sig .tc := ⟨.hbm, 127, rfl⟩
abbrev main_v78 : Ref sig .tc := ⟨.hbm, 128, rfl⟩
abbrev main_cst_22 : Ref sig .tc := ⟨.hbm, 129, rfl⟩
abbrev main_v79 : Ref sig .tc := ⟨.hbm, 130, rfl⟩
abbrev main_cst_23 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_24 : Ref sig .tc := ⟨.hbm, 136, rfl⟩
abbrev main_v84 : Ref sig .tc := ⟨.hbm, 137, rfl⟩
abbrev main_cst_25 : Ref sig .tc := ⟨.hbm, 138, rfl⟩
abbrev main_v85 : Ref sig .tc := ⟨.hbm, 139, rfl⟩
abbrev main_v86 : Ref sig .tc := ⟨.hbm, 140, rfl⟩
abbrev main_cst_26 : Ref sig .tc := ⟨.hbm, 141, rfl⟩
abbrev main_v87 : Ref sig .tc := ⟨.hbm, 142, rfl⟩
abbrev main_v88 : Ref sig .tc := ⟨.hbm, 143, rfl⟩

abbrev nD : Nat := 1
abbrev τ : Topo := Topo.v7x

variable {F : FTy → Type} [FloatOps F]
-- ==== Proof.Frames.lean ====
/-
  The three frames: each program ends, leaves its arguments alone, and leaves every semaphore counter at zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel as printed. -/
theorem frame_kernel : Cert.quiescent_Kernel := fun m ρ _ => Cert.Kernel.Gen.frame m ρ

/-- The kernel read over the extended reals. -/
theorem frame_kernelIdeal : Cert.quiescent_KernelIdeal := fun m ρ _ => Cert.KernelIdeal.Gen.frame m ρ

/-- The reference: it has no semaphore at all. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.KernelRun.lean ====
/-
  The launch of the idealized kernel: every run ends with the result buffer at what the chain of calls and host
  stretches leaves there, and the arguments as they were.
-/
module

public import proofs.«01_k».proof.Proof.Gen.KernelIdeal.Frame

@[expose] public section

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: `frame`'s launch, with the result's contents read at the end as well. -/
theorem run : θ_run defs (onTc (τ := τ) (main (F := F))) ⟨m, fun _ => 0, ρ⟩ (fun r => (∀ c : Dev nD,
      r.2.mem ((c.tc : Thread nD τ).loc main_v55) = W9 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v55 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩), funext fun g => hz g (.inr (no_unscoped g.2))⟩)

end Cert.KernelIdeal.RunValue

end
-- ==== Proof.RefTerm.lean ====
/-
  The reference's result, its one long term cut into named parts: the picked entries, the distances from the identity,
  the squared distances between rows, the bandwidth, the five Gaussians, the four blocks' means.
-/
module

public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen Cert.ReferenceIdeal.Value

/-- The target column, a negative entry counted from the end. -/
def wrapped (tg : IVec S4096 32) : IVec S4096x1x1 32 :=
  let t := broadcastInDim S4096x1 ![0] bcast_S4096_S4096x1_0 tg
  shapeCast S4096x1x1
    (select (cmpi .slt t (broadcastInDim S4096x1 ![] bcast_S_S4096x1 (constantI S_ 32 0#32)))
      (addi t (broadcastInDim S4096x1 ![] bcast_S_S4096x1 (constantI S_ 32 40#32))) t)
    shapeCasts_S4096x1_S4096x1x1

/-- Where the wrapped target is a class. -/
def inRange (w : IVec S4096x1x1 32) : IVec S4096x1 1 :=
  Host.reduce IntOp.andi
    (andi (cmpi .sge w (broadcastInDim S4096x1x1 ![] bcast_S_S4096x1x1 (constantI S_ 32 0#32)))
      (cmpi .sle w (broadcastInDim S4096x1x1 ![0, 1, 2] bcast_S1x1x1_S4096x1x1_0_1_2
        (broadcastInDim S1x1x1 ![2] bcast_S1_S1x1x1_2 (constantI S1 32 39#32)))))
    (constantI S_ 1 1#1) reducesTo_S4096x1x1_S4096x1_d2 h_S_

/-- Each row's entry at its target. -/
def taken (P : FVec Ideal S4096x40 .f32) (tg : IVec S4096 32) : FVec Ideal S4096x1 .f32 :=
  select (inRange (wrapped tg)) (Host.gather gather_S4096x40_S4096x1x1_S4096x1_n_1_0_0_1_2_11 P (wrapped tg))
    (broadcastInDim S4096x1 ![] bcast_S_S4096x1 (constant S_ .f32 0x7FC00000#32))

def nll (P : FVec Ideal S4096x40 .f32) (tg : IVec S4096 32) : FVec Ideal S_ .f32 :=
  Host.negf (Host.divf (Host.reduceAdd (taken P tg) (constant S_ .f32 0x00000000#32) reducesTo_S4096x1_S_d0_1 h_S_)
    (constant S_ .f32 0x45800000#32))

/-- `I - T Tᵀ`, row by row of the batch. -/
def defect (T : FVec Ideal S4096x64x64 .f32) : FVec Ideal S4096x64x64 .f32 :=
  subf (broadcastInDim S4096x64x64 ![0, 1, 2] bcast_S1x64x64_S4096x64x64_0_1_2
      (broadcastInDim S1x64x64 ![1, 2] bcast_S64x64_S1x64x64_1_2
        (uitofp .f32 (cmpi .eq (addi (iotaInDim S64x64 32 0) (broadcastInDim S64x64 ![] bcast_S_S64x64 (constantI S_ 32 0#32)))
          (iotaInDim S64x64 32 1)))))
    (Host.dotGeneral dot_S4096x64x64_S4096x64x64_S4096x64x64_2_2_1_1_0_0 none T T)

def norms (T : FVec Ideal S4096x64x64 .f32) : FVec Ideal S4096 .f32 :=
  Host.sqrt (Host.reduceAdd (mulf (defect T) (defect T)) (constant S_ .f32 0x00000000#32) reducesTo_S4096x64x64_S4096_d1_2 h_S_)

def md (T : FVec Ideal S4096x64x64 .f32) : FVec Ideal S_ .f32 :=
  Host.divf (Host.reduceAdd (norms T) (constant S_ .f32 0x00000000#32) reducesTo_S4096_S_d0 h_S_) (constant S_ .f32 0x45800000#32)

def squares (x : FVec Ideal S8192x1024 .f32) : FVec Ideal S8192 .f32 :=
  Host.reduceAdd (mulf x x) (constant S_ .f32 0x00000000#32) reducesTo_S8192x1024_S8192_d1 h_S_

/-- Squared distances, clamped at zero. -/
def l2 (x : FVec Ideal S8192x1024 .f32) : FVec Ideal S8192x8192 .f32 :=
  maximumf
    (subf
      (addf (broadcastInDim S8192x8192 ![0, 1] bcast_S8192x1_S8192x8192_0_1 (broadcastInDim S8192x1 ![0] bcast_S8192_S8192x1_0 (squares x)))
        (broadcastInDim S8192x8192 ![0, 1] bcast_S1x8192_S8192x8192_0_1 (broadcastInDim S1x8192 ![1] bcast_S8192_S1x8192_1 (squares x))))
      (mulf (broadcastInDim S8192x8192 ![] bcast_S_S8192x8192 (constant S_ .f32 0x40000000#32))
        (Host.dotGeneral dot_S8192x1024_S1024x8192_S8192x8192_1_0_0_1_n_n none x
          (transpose S1024x8192 [1, 0] x transposes_S8192x1024_S1024x8192_1_0))))
    (broadcastInDim S8192x8192 ![] bcast_S_S8192x8192 (constant S_ .f32 0x00000000#32))

def bandwidth (l : FVec Ideal S8192x8192 .f32) : FVec Ideal S_ .f32 :=
  Host.divf (Host.divf (Host.reduceAdd l (constant S_ .f32 0x00000000#32) reducesTo_S8192x8192_S_d0_1 h_S_)
    (constant S_ .f32 0x4C7FF800#32)) (constant S_ .f32 0x40800000#32)

/-- One Gaussian, its bandwidth `b` times the number `w` spells. -/
def kern (w : BitVec 32) (l : FVec Ideal S8192x8192 .f32) (b : FVec Ideal S_ .f32) : FVec Ideal S8192x8192 .f32 :=
  Host.exp (Host.divf (Host.negf l)
    (broadcastInDim S8192x8192 ![] bcast_S_S8192x8192 (mulf b (constant S_ .f32 w))))

def kernels (l : FVec Ideal S8192x8192 .f32) (b : FVec Ideal S_ .f32) : FVec Ideal S8192x8192 .f32 :=
  addf (addf (addf (addf (addf (broadcastInDim S8192x8192 ![] bcast_S_S8192x8192 (constant S_ .f32 0x00000000#32))
    (kern 0x3F800000#32 l b)) (kern 0x40000000#32 l b)) (kern 0x40800000#32 l b)) (kern 0x41000000#32 l b)) (kern 0x41800000#32 l b)

def mean (g : FVec Ideal S4096x4096 .f32) : FVec Ideal S_ .f32 :=
  Host.divf (Host.reduceAdd g (constant S_ .f32 0x00000000#32) reducesTo_S4096x4096_S_d0_1 h_S_) (constant S_ .f32 0x4B800000#32)

def mmd (g : FVec Ideal S8192x8192 .f32) : FVec Ideal S_ .f32 :=
  subf (subf (addf (mean (extractStridedSlice S4096x4096 ![0, 0] g slices_S8192x8192_S4096x4096_0_0))
      (mean (extractStridedSlice S4096x4096 ![4096, 4096] g slices_S8192x8192_S4096x4096_4096_4096)))
    (mean (extractStridedSlice S4096x4096 ![0, 4096] g slices_S8192x8192_S4096x4096_0_4096)))
    (mean (extractStridedSlice S4096x4096 ![4096, 0] g slices_S8192x8192_S4096x4096_4096_0))

def kernelsOf (x : FVec Ideal S8192x1024 .f32) : FVec Ideal S8192x8192 .f32 := kernels (l2 x) (bandwidth (l2 x))

def out (P : FVec Ideal S4096x40 .f32) (tg : IVec S4096 32) (T : FVec Ideal S4096x64x64 .f32)
    (D S : FVec Ideal S4096x1024 .f32) : FVec Ideal S_ .f32 :=
  addf (addf (mulf (constant S_ .f32 0x3DCCCCCD#32) (nll P tg)) (mulf (md T) (constant S_ .f32 0x3A83126F#32)))
    (mulf (constant S_ .f32 0x3F000000#32) (mmd (kernelsOf (fn_main_v20 (F := Ideal) D S))))

theorem out_eq (m : (ℓ : Loc nD τ sig) → Buf (Elt Ideal) ℓ) (c : Dev nD) :
    res_main_v88 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold res_main_v88 out mmd mean kernelsOf kernels kern bandwidth l2 squares md norms defect nll taken inRange wrapped fn_main_v20
  with_reducible rfl

end Cert.ReferenceIdeal.Parts

end
-- ==== Proof.RefValue.lean ====
/-
  The reference's parts read at an index.
-/
module

public import proofs.«01_k».proof.Proof.RefTerm

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen Cert.ReferenceIdeal.Value

theorem l2_at (x : S8192x1024.Idx → EReal) (r s : Fin 8192) :
    l2 x (ix2 r s)
      = max ((∑ k : Fin 1024, x (ix2 r k) * x (ix2 r k)) + (∑ k : Fin 1024, x (ix2 s k) * x (ix2 s k))
          - Ideal.ofBits .f32 0x40000000#32 * ∑ k : Fin 1024, x (ix2 r k) * x (ix2 s k)) 0 := by
  pointwise [l2, squares]

theorem bandwidth_at (l : S8192x8192.Idx → EReal) (i : S_.Idx) :
    bandwidth l i
      = Ideal.div (Ideal.div (∑ r : Fin 8192, ∑ s : Fin 8192, l (ix2 r s)) (Ideal.ofBits .f32 0x4C7FF800#32))
          (Ideal.ofBits .f32 0x40800000#32) := by
  pointwise [bandwidth]

theorem kern_at (w : BitVec 32) (l : S8192x8192.Idx → EReal) (b : S_.Idx → EReal) (r s : Fin 8192) :
    kern w l b (ix2 r s) = Ideal.exp (Ideal.div (-l (ix2 r s)) (b ix0 * Ideal.ofBits .f32 w)) := by
  pointwise [kern]

theorem kernels_at (l : S8192x8192.Idx → EReal) (b : S_.Idx → EReal) (r s : Fin 8192) :
    kernels l b (ix2 r s)
      = (show EReal from kern 0x3F800000#32 l b (ix2 r s)) + (show EReal from kern 0x40000000#32 l b (ix2 r s))
        + (show EReal from kern 0x40800000#32 l b (ix2 r s)) + (show EReal from kern 0x41000000#32 l b (ix2 r s))
        + (show EReal from kern 0x41800000#32 l b (ix2 r s)) := by
  pointwise [kernels]

theorem mmd_at (g : S8192x8192.Idx → EReal) (i : S_.Idx) :
    mmd g i
      = Ideal.div (∑ r : Fin 4096, ∑ s : Fin 4096, g (ix2 ⟨r, by omega⟩ ⟨s, by omega⟩)) (Ideal.ofBits .f32 0x4B800000#32)
        + Ideal.div (∑ r : Fin 4096, ∑ s : Fin 4096, g (ix2 ⟨4096 + r, by omega⟩ ⟨4096 + s, by omega⟩)) (Ideal.ofBits .f32 0x4B800000#32)
        - Ideal.div (∑ r : Fin 4096, ∑ s : Fin 4096, g (ix2 ⟨r, by omega⟩ ⟨4096 + s, by omega⟩)) (Ideal.ofBits .f32 0x4B800000#32)
        - Ideal.div (∑ r : Fin 4096, ∑ s : Fin 4096, g (ix2 ⟨4096 + r, by omega⟩ ⟨s, by omega⟩)) (Ideal.ofBits .f32 0x4B800000#32) := by
  pointwise [mmd, mean]

/-- One entry of the identity less the Gram matrix. -/
def defectAt (T : S4096x64x64.Idx → EReal) (r : Fin 4096) (a b : Fin 64) : EReal :=
  (show EReal from FloatOps.uitofp (F := Ideal) .f32 (IntOp.cmpi .eq (IntOp.addi (BitVec.ofNat 32 a) 0#32) (BitVec.ofNat 32 b)))
    - ∑ k : Fin 64, T (ix3 r a k) * T (ix3 r b k)

theorem md_at (T : S4096x64x64.Idx → EReal) (i : S_.Idx) :
    md T i
      = Ideal.div (∑ r : Fin 4096, Ideal.sqrt (∑ a : Fin 64, ∑ b : Fin 64, defectAt T r a b * defectAt T r a b))
          (Ideal.ofBits .f32 0x45800000#32) := by
  unfold defectAt
  pointwise [md, norms, defect]

theorem nll_at (P : S4096x40.Idx → EReal) (tg : S4096.Idx → BitVec 32) (i : S_.Idx) :
    nll P tg i
      = -Ideal.div (∑ r : Fin 4096, ∑ k : Fin 1, (show EReal from taken P tg (ix2 r k))) (Ideal.ofBits .f32 0x45800000#32) := by
  pointwise [nll]

theorem features_at (D S : S4096x1024.Idx → EReal) (r : Fin 8192) (k : Fin 1024) :
    fn_main_v20 (F := Ideal) D S (ix2 r k)
      = if h : r.val < 4096 then D (ix2 ⟨r, h⟩ k) else S (ix2 ⟨r - 4096, by omega⟩ k) := by
  pointwise [fn_main_v20]

theorem out_at (P : S4096x40.Idx → EReal) (tg : S4096.Idx → BitVec 32) (T : S4096x64x64.Idx → EReal)
    (D S : S4096x1024.Idx → EReal) (i : S_.Idx) :
    out P tg T D S i
      = Ideal.ofBits .f32 0x3DCCCCCD#32 * (show EReal from nll P tg i) + (show EReal from md T i) * Ideal.ofBits .f32 0x3A83126F#32
        + Ideal.ofBits .f32 0x3F000000#32 * (show EReal from mmd (kernelsOf (fn_main_v20 (F := Ideal) D S)) i) := by
  pointwise [out]

/-! ## The picked entries -/

/-- A wrapped target, as a number's word. -/
def wrap (t : BitVec 32) : BitVec 32 := Scalar.select (IntOp.cmpi .slt t 0#32) (IntOp.addi t 40#32) t

theorem wrapped_at (tg : S4096.Idx → BitVec 32) (r : Fin 4096) : wrapped tg (ix3 r 0 0) = wrap (tg (ix1 r)) := by
  unfold wrap
  pointwise [wrapped]

theorem taken_at (P : S4096x40.Idx → EReal) (tg : S4096.Idx → BitVec 32) (r : Fin 4096) :
    taken P tg (ix2 r 0)
      = Scalar.select (inRange (wrapped tg) (ix2 r 0))
          (Host.gather gather_S4096x40_S4096x1x1_S4096x1_n_1_0_0_1_2_11 P (wrapped tg) (ix2 r 0))
          (Ideal.ofBits .f32 0x7FC00000#32) := by
  pointwise [taken]

theorem inRange_at (w : S4096x1x1.Idx → BitVec 32) (r : Fin 4096) :
    inRange w (ix2 r 0)
      = IntOp.andi (IntOp.andi (IntOp.cmpi .sge (w (ix3 r 0 0)) 0#32) (IntOp.cmpi .sle (w (ix3 r 0 0)) 39#32)) 1#1 := by
  pointwise [inRange]
  simp
  try rfl

end Cert.ReferenceIdeal.Parts

end
-- ==== Proof.RefPick.lean ====
/-
  The reference's lookup, row by row: along the classes, at the row's start index, held inside the classes.
-/
module

public import proofs.«01_k».proof.Proof.RefValue

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen Cert.ReferenceIdeal.Value

theorem lookup_at (P : S4096x40.Idx → EReal) (w : S4096x1x1.Idx → BitVec 32) (r : Fin 4096) :
    Host.gather gather_S4096x40_S4096x1x1_S4096x1_n_1_0_0_1_2_11 P w (ix2 r 0)
      = P (ix2 r ⟨min (w (ix3 r 0 0)).toInt.toNat 39, by omega⟩) := by
  unfold Host.gather
  refine congrArg P (funext fun a => Fin.ext ?_)
  show GatherDims.start gather_S4096x40_S4096x1x1_S4096x1_n_1_0_0_1_2_11 (ix2 r 0) w a
    + GatherDims.batchCoord gather_S4096x40_S4096x1x1_S4096x1_n_1_0_0_1_2_11 (ix2 r 0) a
    + GatherDims.offCoord gather_S4096x40_S4096x1x1_S4096x1_n_1_0_0_1_2_11 (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ fun h => ((GatherDims.mem_sKept _ _).mp h).2 (List.mem_singleton.mpr rfl)]
    unfold GatherDims.batchCoord
    rw [dif_pos (show (0 : Fin 2) ∈ gather_S4096x40_S4096x1x1_S4096x1_n_1_0_0_1_2_11.operandBatchingDims from List.mem_singleton.mpr rfl), Nat.zero_add, Nat.add_zero]
    rfl
  · rw [GatherDims.batchCoord_eq_zero _ _ _ (fun h => absurd (congrArg Fin.val (List.mem_singleton.mp h)) Nat.one_ne_zero),
      GatherDims.offCoord_eq_zero _ _ _ fun h => ((GatherDims.mem_sKept _ _).mp h).1 (List.mem_singleton.mpr rfl)]
    unfold GatherDims.start
    rw [dif_pos (show (1 : Fin 2) ∈ gather_S4096x40_S4096x1x1_S4096x1_n_1_0_0_1_2_11.startIndexMap from List.mem_singleton.mpr rfl), Nat.add_zero]
    refine congrArg (fun v : BitVec 32 => min v.toInt.toNat 39) (congrArg w (funext fun b => Fin.ext ?_))
    match b with
    | ⟨0, _⟩ => rfl
    | ⟨1, _⟩ => rfl
    | ⟨2, _⟩ => rfl

end Cert.ReferenceIdeal.Parts

end
-- ==== Proof.Consts.lean ====
/-
  The float constants the two programs spell, as the reals they denote.
-/
module

public import Idealize.ShloMosaic.PureOps.Ideal

@[expose] public section

noncomputable section

namespace Cert.Consts

open Idealize.ShloMosaic

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem quarter : Ideal.ofBits .f32 0x3E800000#32 = ((1 / 4 : ℝ) : EReal) := by
  simp [Ideal.ofBits, Ideal.ieee, -EReal.coe_mul]; norm_num

theorem sixtyFour : Ideal.ofBits .f32 0x42800000#32 = ((64 : ℝ) : EReal) := by
  simp [Ideal.ofBits, Ideal.ieee, -EReal.coe_mul]; norm_num

theorem rows : Ideal.ofBits .f32 0x45800000#32 = ((4096 : ℝ) : EReal) := by
  simp [Ideal.ofBits, Ideal.ieee, -EReal.coe_mul]; norm_num

/-- Twice the number of rows of the two feature arrays together. -/
theorem twiceRows : Ideal.ofBits .f32 0x46800000#32 = ((16384 : ℝ) : EReal) := by
  simp [Ideal.ofBits, Ideal.ieee, -EReal.coe_mul]; norm_num

/-- `8192 * 8191`, the number of ordered pairs of distinct rows. -/
theorem pairs : Ideal.ofBits .f32 0x4C7FF800#32 = ((67100672 : ℝ) : EReal) := by
  simp [Ideal.ofBits, Ideal.ieee, -EReal.coe_mul]; norm_num

/-- `4096 * 4096`. -/
theorem square : Ideal.ofBits .f32 0x4B800000#32 = ((16777216 : ℝ) : EReal) := by
  simp [Ideal.ofBits, Ideal.ieee, -EReal.coe_mul]; norm_num

end Cert.Consts

end
-- ==== Proof.StatsCore.lean ====
/-
  One grid point of the statistics call, over the extended reals: 256 rows of every input.
-/
module

public import proofs.«01_k».proof.Proof.Gen.KernelIdeal.Frame
public import Idealize.ShloMosaic.Lib.Pipeline.ValueKit
public import proofs.«01_k».proof.Proof.Consts

@[expose] public section

set_option maxRecDepth 16384

noncomputable section

open Idealize.ShloMosaic Idealize.ShloMosaic.TcCoe Idealize.SL.Sem

namespace Cert.KernelIdeal.StatsValue

open Cert.KernelIdeal Cert.KernelIdeal.Gen

/-- The entry a one-hot row of the target picks. -/
def pick {n : ℕ} (p : (⟨2, ![n, 40]⟩ : Shape).Idx → EReal) (t : (⟨2, ![n, 1]⟩ : Shape).Idx → BitVec 32) (r : Fin n) : EReal :=
  ∑ k : Fin 40, Scalar.select (IntOp.cmpi .eq (BitVec.ofNat 32 k) (t (ix2 r 0))) (p (ix2 r k)) 0

/-- The distance of `T Tᵀ` from the identity, by traces. -/
def dist {n : ℕ} (T : (⟨3, ![n, 64, 64]⟩ : Shape).Idx → EReal) (r : Fin n) : EReal :=
  Ideal.sqrt (max ((∑ a : Fin 64, ∑ b : Fin 64, (∑ k : Fin 64, T (ix3 r b k) * T (ix3 r a k)) * (∑ k : Fin 64, T (ix3 r b k) * T (ix3 r a k)))
    - ((2 : ℝ) : EReal) * (∑ a : Fin 64, ∑ b : Fin 64, T (ix3 r b a) * T (ix3 r b a)) + ((64 : ℝ) : EReal)) 0)

/-- A row's sum of squares. -/
def sumSq {n : ℕ} (X : (⟨2, ![n, 1024]⟩ : Shape).Idx → EReal) (r : Fin n) : EReal :=
  ∑ k : Fin 1024, X (ix2 r k) * X (ix2 r k)

theorem sumSq_dense (q : Vec Ideal S256x1024 .f32) (x : Fin 256) :
    k0_pay5 (F := Ideal) (k0_pay4 q) (ix2 x 0) = sumSq q x := by
  rw [sumSq]
  pointwise [k0_pay5, k0_pay4]

theorem sumSq_sparse (q : Vec Ideal S256x1024 .f32) (x : Fin 256) :
    k0_pay6 (F := Ideal) q (ix2 x 0) = sumSq q x := by
  rw [sumSq]
  pointwise [k0_pay6]

theorem columns (p q : Vec Ideal S256x1024 .f32) (o : Vec Ideal S1x1x1024 .f32) (k : Fin 1024) :
    k0_pay10 (F := Ideal) p q o (ix3 0 0 k) = o (ix3 0 0 k) + (∑ x : Fin 256, p (ix2 x k) + ∑ x : Fin 256, q (ix2 x k)) := by
  pointwise [k0_pay10]

theorem picked (p : Vec Ideal S256x40 .f32) (t : Vec Ideal S256x1 .i32) :
    k0_pay2 (F := Ideal) p t = ∑ x : Fin 256, pick p t x := by
  simp only [pick]
  pointwise [k0_pay2]

theorem distances (p : Vec Ideal S256x64x64 .f32) :
    k0_pay3 (F := Ideal) p = ∑ x : Fin 256, dist p x := by
  simp only [dist, ← Consts.two, ← Consts.sixtyFour]
  pointwise [k0_pay3]
  simp only [Finset.univ_unique, Finset.sum_singleton]

theorem squares (p q : Vec Ideal S256x1024 .f32) :
    k0_pay7 (F := Ideal) p (k0_pay4 q) = ∑ x : Fin 256, sumSq q x + ∑ x : Fin 256, sumSq p x := by
  simp only [sumSq]
  pointwise [k0_pay7, k0_pay5, k0_pay6, k0_pay4]
  simp only [Finset.univ_unique, Finset.sum_singleton]

/-- The lanes a point adds to: 0, 1 and 2. -/
theorem lanes (a b d : EReal) (o : Vec Ideal S1x1x128 .f32) (l : Fin 128) :
    k0_pay1 (F := Ideal) a b d (iota Kind.tc S1x1x128 32 [2] iota_S1x1x128_d2_w32) (k0_pay11 o) k0_pay12 (ix3 0 0 l)
      = o (ix3 0 0 l) + (if l = 0 then a else if l = 1 then b else if l = 2 then d else 0) := by
  pointwise [k0_pay1, k0_pay11, k0_pay12]
  have h0 : ∀ l : Fin 128, IntOp.cmpi .eq (BitVec.ofNat 32 l) 0#32 = if l = 0 then 1#1 else 0#1 := by decide +kernel
  have h1 : ∀ l : Fin 128, IntOp.cmpi .eq (BitVec.ofNat 32 l) 1#32 = if l = 1 then 1#1 else 0#1 := by decide +kernel
  have h2 : ∀ l : Fin 128, IntOp.cmpi .eq (BitVec.ofNat 32 l) 2#32 = if l = 2 then 1#1 else 0#1 := by decide +kernel
  rw [h0, h1, h2]
  split_ifs <;> rfl

end Cert.KernelIdeal.StatsValue

end
-- ==== Proof.Stats.lean ====
/-
  The statistics call: what it leaves in its four outputs.
-/
module

public import proofs.«01_k».proof.Proof.StatsCore

@[expose] public section

set_option maxRecDepth 16384

noncomputable section

open Idealize.ShloMosaic Idealize.ShloMosaic.TcCoe Idealize.SL.Sem
open Idealize.ShloMosaic.Pipeline (Dat)

namespace Cert.KernelIdeal.StatsValue

open Cert.KernelIdeal Cert.KernelIdeal.Gen

variable (V : (c : Dev nD) → (b : Ref sig .tc) → Buf (Elt Ideal) ((c : Thread nD τ).loc b)) (c : Dev nD)

theorem lt (t : Fin cfg0.N) : t.val < 16 := lt_of_lt_of_eq t.isLt N_0

theorem idx : ∀ t : Fin cfg0.N,
    win0_0.index t = ![t.val, 0] ∧ win0_1.index t = ![t.val, 0] ∧ win0_2.index t = ![t.val, 0, 0]
      ∧ win0_3.index t = ![t.val, 0] ∧ win0_4.index t = ![t.val, 0] ∧ win0_5.index t = ![t.val, 0]
      ∧ win0_6.index t = ![t.val, 0] :=
  (by decide +kernel : ∀ t : Fin grid0.N, _)

/-- Row `x` of point `t`. -/
def row (t : Fin cfg0.N) (x : Fin 256) : Fin 4096 := ⟨t * 256 + x, by have := lt t; omega⟩

theorem dense_row (t : Fin cfg0.N) (x : Fin 256) (k : Fin 1024) :
    iblk0 V c 3 t (ix2 x k) = V c main_arg3 (ix2 (row t x) k) := by
  obtain ⟨h0, h1, h2, h3, h4, h5, h6⟩ := idx t
  blk_ext! [iblk0, h3, row]

theorem sparse_row (t : Fin cfg0.N) (x : Fin 256) (k : Fin 1024) :
    iblk0 V c 4 t (ix2 x k) = V c main_arg4 (ix2 (row t x) k) := by
  obtain ⟨h0, h1, h2, h3, h4, h5, h6⟩ := idx t
  blk_ext! [iblk0, h4, row]

theorem pred_row (t : Fin cfg0.N) (x : Fin 256) (k : Fin 40) :
    iblk0 V c 0 t (ix2 x k) = V c main_arg0 (ix2 (row t x) k) := by
  obtain ⟨h0, h1, h2, h3, h4, h5, h6⟩ := idx t
  blk_ext! [iblk0, h0, row]

theorem target_row (t : Fin cfg0.N) (x : Fin 256) :
    iblk0 V c 1 t (ix2 x 0) = V c main_v0 (ix2 (row t x) 0) := by
  obtain ⟨h0, h1, h2, h3, h4, h5, h6⟩ := idx t
  blk_ext! [iblk0, h1, row]

theorem trans_row (t : Fin cfg0.N) (x : Fin 256) (a b : Fin 64) :
    iblk0 V c 2 t (ix3 x a b) = V c main_arg2 (ix3 (row t x) a b) := by
  obtain ⟨h0, h1, h2, h3, h4, h5, h6⟩ := idx t
  blk_ext! [iblk0, h2, row]

theorem sq_dense (t : Fin cfg0.N) : (outsAt0 V c t t.isLt).1 = k0_pay5 (F := Ideal) (k0_pay4 (iblk0 V c 3 t)) := by
  by_cases h : t.val % 16 = 0
  · rw [outsAt0_A V c t h]; frame_out
  · rw [outsAt0_B V c t h]; frame_out

theorem sq_sparse (t : Fin cfg0.N) : (outsAt0 V c t t.isLt).2.1 = k0_pay6 (F := Ideal) (iblk0 V c 4 t) := by
  by_cases h : t.val % 16 = 0
  · rw [outsAt0_A V c t h]; frame_out
  · rw [outsAt0_B V c t h]; frame_out

/-! The arrays the call reads, at their own types. -/

def dense : S4096x1024.Idx → EReal := V c main_arg3
def sparse : S4096x1024.Idx → EReal := V c main_arg4
def pred : S4096x40.Idx → EReal := V c main_arg0
def target : S4096x1.Idx → BitVec 32 := V c main_v0
def trans : S4096x64x64.Idx → EReal := V c main_arg2

theorem sumSq_dense_row (t : Fin cfg0.N) (x : Fin 256) : sumSq (n := 256) (iblk0 V c 3 t) x = sumSq (dense V c) (row t x) :=
  Finset.sum_congr rfl fun k _ => congrArg₂ (· * ·) (dense_row V c t x k) (dense_row V c t x k)

theorem sumSq_sparse_row (t : Fin cfg0.N) (x : Fin 256) : sumSq (n := 256) (iblk0 V c 4 t) x = sumSq (sparse V c) (row t x) :=
  Finset.sum_congr rfl fun k _ => congrArg₂ (· * ·) (sparse_row V c t x k) (sparse_row V c t x k)

theorem eta (y : S256x1.Idx) : y = ix2 (y 0) 0 := by
  funext a; fin_cases a
  · rfl
  · exact Subsingleton.elim (α := Fin 1) _ _

/-- Each dense row's sum of squares. -/
theorem dense_value (r : Fin 4096) : (dat0 V c).arrAt 5 cfg0.N (ix2 r 0) = sumSq (dense V c) r := by
  have e : (dat0 V c).arrAt 5 cfg0.N = fun i => sumSq (n := 4096) (dense V c) (i 0) := by
    refine (dat0 V c).arrAt_eq_of_covers 5 _ (by decide +kernel) fun t _ y => ?_
    obtain ⟨h0, h1, h2, h3, h4, h5, h6⟩ := idx t
    blk_simp
    rw [after0_5, sq_dense]
    refine ((congrArg _ (eta y)).trans (sumSq_dense _ (y 0))).trans ?_
    refine (sumSq_dense_row V c t (y 0)).trans (congrArg (sumSq (dense V c)) (Fin.ext ?_))
    blk_simp [h5, row]
  rw [e]
  rfl

/-- Each sparse row's sum of squares. -/
theorem sparse_value (r : Fin 4096) : (dat0 V c).arrAt 6 cfg0.N (ix2 r 0) = sumSq (sparse V c) r := by
  have e : (dat0 V c).arrAt 6 cfg0.N = fun i => sumSq (n := 4096) (sparse V c) (i 0) := by
    refine (dat0 V c).arrAt_eq_of_covers 6 _ (by decide +kernel) fun t _ y => ?_
    obtain ⟨h0, h1, h2, h3, h4, h5, h6⟩ := idx t
    blk_simp
    rw [after0_6, sq_sparse]
    refine ((congrArg _ (eta y)).trans (sumSq_sparse _ (y 0))).trans ?_
    refine (sumSq_sparse_row V c t (y 0)).trans (congrArg (sumSq (sparse V c)) (Fin.ext ?_))
    blk_simp [h6, row]
  rw [e]
  rfl

/-- What a point adds to the columns' sums. -/
theorem column_first (t : Fin cfg0.N) (h : t.val % 16 = 0) (k : Fin 1024) :
    (outsAt0 V c t t.isLt).2.2.1 (ix3 0 0 k)
      = 0 + (∑ x : Fin 256, dense V c (ix2 (row t x) k) + ∑ x : Fin 256, sparse V c (ix2 (row t x) k)) := by
  rw [outsAt0_A V c t h]
  frame_out
  refine (columns _ _ _ _).trans (congrArg₂ (· + ·) Ideal.ofBits_zero_f32 (congrArg₂ (· + ·) ?_ ?_))
  · exact Finset.sum_congr rfl fun x _ => dense_row V c t x k
  · exact Finset.sum_congr rfl fun x _ => sparse_row V c t x k

theorem column_step (t : Fin cfg0.N) (h : ¬t.val % 16 = 0) (k : Fin 1024) :
    (outsAt0 V c t t.isLt).2.2.1 (ix3 0 0 k)
      = (outsAt0 V c (t.val - 1) (by omega)).2.2.1 (ix3 0 0 k)
        + (∑ x : Fin 256, dense V c (ix2 (row t x) k) + ∑ x : Fin 256, sparse V c (ix2 (row t x) k)) := by
  rw [outsAt0_B V c t h]
  frame_out
  refine (columns _ _ _ _).trans (congrArg (_ + ·) (congrArg₂ (· + ·) ?_ ?_))
  · exact Finset.sum_congr rfl fun x _ => dense_row V c t x k
  · exact Finset.sum_congr rfl fun x _ => sparse_row V c t x k

/-- Rows point by point are the rows. -/
theorem sum_rows (f : Fin 4096 → EReal) : ∑ t : Fin cfg0.N, ∑ x : Fin 256, f (row t x) = ∑ r : Fin 4096, f r :=
  Fin.sum_mul_add_congr (S := 16) (n := 256) (fun _ _ _ => rfl)

/-- The columns' sums over both feature arrays. -/
theorem column_value (k : Fin 1024) :
    (dat0 V c).arrAt 7 cfg0.N (ix3 0 0 k)
      = ∑ r : Fin 4096, dense V c (ix2 r k) + ∑ r : Fin 4096, sparse V c (ix2 r k) := by
  have e : (dat0 V c).arrAt 7 cfg0.N = (outsAt0 V c t0_15 t0_15.isLt).2.2.1 :=
    (dat0 V c).arrAt_eq_of_after_last 7 t0_15 (by decide +kernel) _ fun j => by
      blk_simp
      rw [after0_7]
  rw [e]
  rw [Pipeline.eq_sum_fin_of_reset_step_apply_last (fun n h (k : Fin 1024) => (outsAt0 V c n h).2.2.1 (ix3 0 0 k)) 16 (fun _ => 0)
    (fun t k => ∑ x : Fin 256, dense V c (ix2 (row t x) k) + ∑ x : Fin 256, sparse V c (ix2 (row t x) k))
    (column_first V c) (column_step V c) (le_of_eq N_0) t0_15 rfl k, zero_add, Finset.sum_add_distrib]
  exact congrArg₂ (· + ·) (sum_rows fun r => dense V c (ix2 r k)) (sum_rows fun r => sparse V c (ix2 r k))

/-- What a point adds to a lane. -/
def laneTerm (t : Fin cfg0.N) (l : Fin 128) : EReal :=
  if l = 0 then ∑ x : Fin 256, pick (pred V c) (target V c) (row t x)
  else if l = 1 then ∑ x : Fin 256, dist (trans V c) (row t x)
  else if l = 2 then ∑ x : Fin 256, sumSq (dense V c) (row t x) + ∑ x : Fin 256, sumSq (sparse V c) (row t x)
  else 0

theorem laneTerm_eq (t : Fin cfg0.N) (l : Fin 128) :
    (if l = 0 then k0_pay2 (F := Ideal) (iblk0 V c 0 t) (iblk0 V c 1 t)
      else if l = 1 then k0_pay3 (F := Ideal) (iblk0 V c 2 t)
      else if l = 2 then k0_pay7 (F := Ideal) (iblk0 V c 4 t) (k0_pay4 (iblk0 V c 3 t)) else 0)
      = laneTerm V c t l := by
  rw [laneTerm, squares, distances, picked]
  have e0 : ∀ x, pick (n := 256) (iblk0 V c 0 t) (iblk0 V c 1 t) x = pick (pred V c) (target V c) (row t x) := fun x =>
    Finset.sum_congr rfl fun k _ => congrArg₂ (fun a b => Scalar.select (IntOp.cmpi .eq (BitVec.ofNat 32 k) a) b 0)
      (target_row V c t x) (pred_row V c t x k)
  have e1 : ∀ x, dist (n := 256) (iblk0 V c 2 t) x = dist (trans V c) (row t x) := fun x => by
    simp only [dist]
    have := trans_row V c t x
    simp only [this]
    rfl
  simp only [e0, e1, sumSq_dense_row, sumSq_sparse_row]

theorem lane_first (t : Fin cfg0.N) (h : t.val % 16 = 0) (l : Fin 128) :
    (outsAt0 V c t t.isLt).2.2.2 (ix3 0 0 l) = 0 + laneTerm V c t l := by
  rw [outsAt0_A V c t h]
  frame_out
  exact (lanes _ _ _ _ _).trans (congrArg₂ (· + ·) Ideal.ofBits_zero_f32 (laneTerm_eq V c t l))

theorem lane_step (t : Fin cfg0.N) (h : ¬t.val % 16 = 0) (l : Fin 128) :
    (outsAt0 V c t t.isLt).2.2.2 (ix3 0 0 l)
      = (outsAt0 V c (t.val - 1) (by omega)).2.2.2 (ix3 0 0 l) + laneTerm V c t l := by
  rw [outsAt0_B V c t h]
  frame_out
  exact (lanes _ _ _ _ _).trans (congrArg (_ + ·) (laneTerm_eq V c t l))

theorem lane_value (l : Fin 128) :
    (dat0 V c).arrAt 8 cfg0.N (ix3 0 0 l) = ∑ t : Fin cfg0.N, laneTerm V c t l := by
  have e : (dat0 V c).arrAt 8 cfg0.N = (outsAt0 V c t0_15 t0_15.isLt).2.2.2 :=
    (dat0 V c).arrAt_eq_of_after_last 8 t0_15 (by decide +kernel) _ fun j => by
      blk_simp
      rw [after0_8]
  rw [e]
  rw [Pipeline.eq_sum_fin_of_reset_step_apply_last (fun n h (l : Fin 128) => (outsAt0 V c n h).2.2.2 (ix3 0 0 l)) 16 (fun _ => 0)
    (laneTerm V c) (lane_first V c) (lane_step V c) (le_of_eq N_0) t0_15 rfl l, zero_add]

/-- Lane 0: the picked entries. -/
theorem picked_value : (dat0 V c).arrAt 8 cfg0.N (ix3 0 0 0) = ∑ r : Fin 4096, pick (pred V c) (target V c) r := by
  rw [lane_value]
  exact sum_rows fun r => pick (pred V c) (target V c) r

/-- Lane 1: the distances. -/
theorem dist_value : (dat0 V c).arrAt 8 cfg0.N (ix3 0 0 1) = ∑ r : Fin 4096, dist (trans V c) r := by
  rw [lane_value]
  exact sum_rows fun r => dist (trans V c) r

/-- Lane 2: all sums of squares. -/
theorem square_value :
    (dat0 V c).arrAt 8 cfg0.N (ix3 0 0 2)
      = ∑ r : Fin 4096, sumSq (dense V c) r + ∑ r : Fin 4096, sumSq (sparse V c) r := by
  rw [lane_value]
  refine (Finset.sum_add_distrib (f := fun t => ∑ x : Fin 256, sumSq (dense V c) (row t x))
    (g := fun t => ∑ x : Fin 256, sumSq (sparse V c) (row t x))).trans (congrArg₂ (fun a b : EReal => a + b) ?_ ?_)
  · exact sum_rows fun r => sumSq (dense V c) r
  · exact sum_rows fun r => sumSq (sparse V c) r

end Cert.KernelIdeal.StatsValue

end
-- ==== Proof.GramCore.lean ====
/-
  One grid point of the three kernel-sum calls, over the extended reals.

  A point holds 1024 rows of each of two feature arrays and their scaled, negated squared norms. It walks the
  4 × 4 pieces of 256 × 256 pairs, sums the five Gaussians of every pair, and adds the weighted total to lane 0 of
  the accumulator. Here: that total is the plain double sum over the 1024 × 1024 pairs.
-/
module

public import proofs.«01_k».proof.Proof.Gen.KernelIdeal.Frame
public import Idealize.ShloMosaic.Lib.Pipeline.ValueKit
public import proofs.«01_k».proof.Proof.Consts

@[expose] public section

set_option maxRecDepth 16384

noncomputable section

open Idealize.ShloMosaic Idealize.ShloMosaic.TcCoe Idealize.SL.Sem

namespace Cert.KernelIdeal.GramValue

open Cert.KernelIdeal Cert.KernelIdeal.Gen

/-- The five Gaussians of one pair, summed: `l` is minus the squared distance in the widest Gaussian's unit, and each
    narrower Gaussian is the square of the one before. -/
def five (l : EReal) : EReal :=
  Ideal.exp2 l + Ideal.exp2 l * Ideal.exp2 l
    + Ideal.exp2 l * Ideal.exp2 l * (Ideal.exp2 l * Ideal.exp2 l)
    + Ideal.exp2 l * Ideal.exp2 l * (Ideal.exp2 l * Ideal.exp2 l) * (Ideal.exp2 l * Ideal.exp2 l * (Ideal.exp2 l * Ideal.exp2 l))
    + Ideal.exp2 l * Ideal.exp2 l * (Ideal.exp2 l * Ideal.exp2 l) * (Ideal.exp2 l * Ideal.exp2 l * (Ideal.exp2 l * Ideal.exp2 l))
      * (Ideal.exp2 l * Ideal.exp2 l * (Ideal.exp2 l * Ideal.exp2 l) * (Ideal.exp2 l * Ideal.exp2 l * (Ideal.exp2 l * Ideal.exp2 l)))

/-- What row `r` of the one block and row `s` of the other contribute. -/
def pair (x0 x1 : Vec Ideal S1024x1024 .bf16) (x2 : Vec Ideal S1024x1 .f32) (x3 : Vec Ideal S1x1024 .f32)
    (r s : Fin 1024) : EReal :=
  five (min (x2 (ix2 r 0) + x3 (ix2 0 s) + ∑ k : Fin 1024, x0 (ix2 r k) * x1 (ix2 s k)) 0)

/-- All pairs of the two blocks. -/
def total (x0 x1 : Vec Ideal S1024x1024 .bf16) (x2 : Vec Ideal S1024x1 .f32) (x3 : Vec Ideal S1x1024 .f32) : EReal :=
  ∑ r : Fin 1024, ∑ s : Fin 1024, pair x0 x1 x2 x3 r s

/-- One 256 × 256 piece, its rows summed. -/
theorem piece_apply (a b : Vec Ideal S256x1024 .bf16) (p : Vec Ideal S256x1 .f32) (q : Vec Ideal S1x256 .f32)
    (j : S1x256.Idx) :
    k3_pay4 (F := Ideal) a p b q j
      = ∑ x : Fin 256, five (min (p (ix2 x 0) + q (ix2 0 (j 1)) + ∑ k : Fin 1024, a (ix2 x k) * b (ix2 (j 1) k)) 0) := by
  pointwise [k3_pay4, k3_pay2, k3_pay3]
  rfl

theorem rows_inb {r : ℕ} (hr : r + 256 ≤ 1024) :
    ∀ a, (![r, 0] : Fin 2 → Nat) a + S256x1024.size a ≤ S1024x1024.size a := by
  intro a; fin_cases a <;> simp [Shape.size] <;> omega

theorem col_inb {r : ℕ} (hr : r + 256 ≤ 1024) :
    ∀ a, (![r, 0] : Fin 2 → Nat) a + S256x1.size a ≤ S1024x1.size a := by
  intro a; fin_cases a <;> simp [Shape.size] <;> omega

theorem row_inb {r : ℕ} (hr : r + 256 ≤ 1024) :
    ∀ a, (![0, r] : Fin 2 → Nat) a + S1x256.size a ≤ S1x1024.size a := by
  intro a; fin_cases a <;> simp [Shape.size] <;> omega

/-- The piece of the rows from `r` on and the columns from `s` on. -/
def piece (x0 x1 : Vec Ideal S1024x1024 .bf16) (x2 : Vec Ideal S1024x1 .f32) (x3 : Vec Ideal S1x1024 .f32)
    (r s : ℕ) (hr : r + 256 ≤ 1024) (hs : s + 256 ≤ 1024) : FVec Ideal S1x256 .f32 :=
  k3_pay4 (F := Ideal) (View.ld x0 (Rect.unit ![r, 0] S256x1024.size (rows_inb hr)))
    (View.ld x2 (Rect.unit ![r, 0] S256x1.size (col_inb hr)))
    (View.ld x1 (Rect.unit ![s, 0] S256x1024.size (rows_inb hs)))
    (View.ld x3 (Rect.unit ![0, s] S1x256.size (row_inb hs)))

theorem piece_eq (x0 x1 : Vec Ideal S1024x1024 .bf16) (x2 : Vec Ideal S1024x1 .f32) (x3 : Vec Ideal S1x1024 .f32)
    (r s : ℕ) (hr : r + 256 ≤ 1024) (hs : s + 256 ≤ 1024) (y : Fin 256) :
    piece x0 x1 x2 x3 r s hr hs (ix2 0 y)
      = ∑ x : Fin 256, pair x0 x1 x2 x3 ⟨r + x, by omega⟩ ⟨s + y, by omega⟩ := by
  rw [piece, piece_apply]
  refine Finset.sum_congr rfl fun x _ => ?_
  have e2 := View.ld_unit_apply_of x2 ![r, 0] S256x1.size (col_inb hr) (ix2 x 0) (ix2 ⟨r + x, by omega⟩ 0)
    (by intro a; fin_cases a <;> rfl)
  have e3 := View.ld_unit_apply_of x3 ![0, s] S1x256.size (row_inb hs) (ix2 0 y) (ix2 0 ⟨s + y, by omega⟩)
    (by intro a; fin_cases a <;> rfl)
  have e0 := fun k : Fin 1024 => View.ld_unit_apply_of x0 ![r, 0] S256x1024.size (rows_inb hr) (ix2 x k)
    (ix2 ⟨r + x, by omega⟩ k) (by intro a; fin_cases a <;> simp [ix2])
  have e1 := fun k : Fin 1024 => View.ld_unit_apply_of x1 ![s, 0] S256x1024.size (rows_inb hs) (ix2 y k)
    (ix2 ⟨s + y, by omega⟩ k) (by intro a; fin_cases a <;> simp [ix2])
  rw [pair]
  refine congrArg five (congrArg (min · 0) (congrArg₂ (· + ·) (congrArg₂ (· + ·) e2 e3) ?_))
  exact Finset.sum_congr rfl fun k _ => congrArg₂ (· * ·) (e0 k) (e1 k)

/-- The sixteen pieces added up in the kernel's order. -/
def pieces (x0 x1 : Vec Ideal S1024x1024 .bf16) (x2 : Vec Ideal S1024x1 .f32) (x3 : Vec Ideal S1x1024 .f32) :
    FVec Ideal S1x256 .f32 :=
  let g := fun r s hr hs => piece x0 x1 x2 x3 r s hr hs
  addf (addf (addf (addf (addf (addf (addf (addf (addf (addf (addf (addf (addf (addf (addf (addf
    (broadcast S1x256 (Scalar.ofBits .f32 0x00000000#32))
      (g 0 0 (by omega) (by omega))) (g 0 256 (by omega) (by omega)))
      (g 0 512 (by omega) (by omega))) (g 0 768 (by omega) (by omega)))
      (g 256 0 (by omega) (by omega))) (g 256 256 (by omega) (by omega)))
      (g 256 512 (by omega) (by omega))) (g 256 768 (by omega) (by omega)))
      (g 512 0 (by omega) (by omega))) (g 512 256 (by omega) (by omega)))
      (g 512 512 (by omega) (by omega))) (g 512 768 (by omega) (by omega)))
      (g 768 0 (by omega) (by omega))) (g 768 256 (by omega) (by omega)))
      (g 768 512 (by omega) (by omega))) (g 768 768 (by omega) (by omega))

theorem pieces_apply (x0 x1 : Vec Ideal S1024x1024 .bf16) (x2 : Vec Ideal S1024x1 .f32) (x3 : Vec Ideal S1x1024 .f32)
    (y : Fin 256) :
    pieces x0 x1 x2 x3 (ix2 0 y)
      = ∑ k : Fin 4, ∑ l : Fin 4, ∑ x : Fin 256,
          pair x0 x1 x2 x3 ⟨k * 256 + x, by omega⟩ ⟨l * 256 + y, by omega⟩ := by
  simp only [pieces, addf_apply, Ideal.addf_def, piece_eq, Fin.sum_univ_four]
  rw [show (broadcast S1x256 (Scalar.ofBits (F := Ideal) .f32 0x00000000#32) : FVec Ideal S1x256 .f32) (ix2 0 y) = 0 from Ideal.ofBits_zero_f32, zero_add]
  simp only [Fin.isValue, Fin.val_zero, Fin.val_one, Fin.val_two, zero_mul, one_mul, Nat.reduceMul,
    show ((3 : Fin 4) : ℕ) = 3 from rfl, add_assoc]

/-- The lanes' sum of the pieces is the sum over all pairs. -/
theorem sum_pieces (x0 x1 : Vec Ideal S1024x1024 .bf16) (x2 : Vec Ideal S1024x1 .f32) (x3 : Vec Ideal S1x1024 .f32) :
    ∑ y : Fin 256, pieces x0 x1 x2 x3 (ix2 0 y) = total x0 x1 x2 x3 := by
  simp only [pieces_apply]
  rw [total, ← Fin.sum_mul_add_fin 4 256 (fun r : Fin 1024 => ∑ s : Fin 1024, pair x0 x1 x2 x3 r s)]
  rw [Finset.sum_comm]
  refine Finset.sum_congr rfl fun k _ => ?_
  simp only [← Fin.sum_mul_add_fin 4 256 (fun s : Fin 1024 => pair x0 x1 x2 x3 _ s)]
  rw [Finset.sum_comm, Finset.sum_comm (s := (Finset.univ : Finset (Fin 256)))]
  refine Finset.sum_congr rfl fun l _ => ?_
  rw [Finset.sum_comm]

/-- What a point leaves in the accumulator that held `o`, with weight `w`. -/
def step (w : EReal) (x0 x1 : Vec Ideal S1024x1024 .bf16) (x2 : Vec Ideal S1024x1 .f32) (x3 : Vec Ideal S1x1024 .f32)
    (o : Vec Ideal S1x1x128 .f32) : FVec Ideal S1x1x128 .f32 :=
  k1_pay2 (F := Ideal) w (shapeCast S1x1x256 (pieces x0 x1 x2 x3) shapeCasts_S1x256_S1x1x256) o

theorem step_apply (w : EReal) (x0 x1 : Vec Ideal S1024x1024 .bf16) (x2 : Vec Ideal S1024x1 .f32)
    (x3 : Vec Ideal S1x1024 .f32) (o : Vec Ideal S1x1x128 .f32) (j : S1x1x128.Idx) :
    step w x0 x1 x2 x3 o j
      = o j + Scalar.select (IntOp.cmpi .eq (BitVec.ofNat 32 (j 2 : ℕ)) 0#32) (total x0 x1 x2 x3 * w) 0 := by
  rw [step, ← sum_pieces]
  generalize pieces x0 x1 x2 x3 = v
  pointwise [k1_pay2]
  simp only [Finset.univ_unique, Finset.sum_singleton]

/-- `pair`, of rows of the whole arrays. -/
def gpair (X Y : S4096x1024.Idx → EReal) (p : S4096x1.Idx → EReal) (q : S1x4096.Idx → EReal) (r s : Fin 4096) : EReal :=
  five (min (p (ix2 r 0) + q (ix2 0 s) + ∑ k : Fin 1024, X (ix2 r k) * Y (ix2 s k)) 0)

/-- The pairs of the `i`-th 1024 rows with the `j`-th. -/
def tile (X Y : S4096x1024.Idx → EReal) (p : S4096x1.Idx → EReal) (q : S1x4096.Idx → EReal) (i j : Fin 4) : EReal :=
  ∑ r : Fin 1024, ∑ s : Fin 1024, gpair X Y p q ⟨i * 1024 + r, by omega⟩ ⟨j * 1024 + s, by omega⟩

/-- A point's total is the tile its blocks are. -/
theorem total_eq (X Y : S4096x1024.Idx → EReal) (p : S4096x1.Idx → EReal) (q : S1x4096.Idx → EReal) (i j : Fin 4)
    (x0 x1 : Vec Ideal S1024x1024 .bf16) (x2 : Vec Ideal S1024x1 .f32) (x3 : Vec Ideal S1x1024 .f32)
    (h0 : ∀ r k : Fin 1024, x0 (ix2 r k) = X (ix2 ⟨i * 1024 + r, by omega⟩ k))
    (h1 : ∀ r k : Fin 1024, x1 (ix2 r k) = Y (ix2 ⟨j * 1024 + r, by omega⟩ k))
    (h2 : ∀ r : Fin 1024, x2 (ix2 r 0) = p (ix2 ⟨i * 1024 + r, by omega⟩ 0))
    (h3 : ∀ r : Fin 1024, x3 (ix2 0 r) = q (ix2 0 ⟨j * 1024 + r, by omega⟩)) :
    total x0 x1 x2 x3 = tile X Y p q i j := by
  simp only [total, pair, h0, h1, h2, h3]
  rfl

/-- Lane 0 of the accumulator is the one the point adds to. -/
theorem step_lane (w : EReal) (x0 x1 : Vec Ideal S1024x1024 .bf16) (x2 : Vec Ideal S1024x1 .f32)
    (x3 : Vec Ideal S1x1024 .f32) (o : Vec Ideal S1x1x128 .f32) :
    step w x0 x1 x2 x3 o (ix3 0 0 0) = o (ix3 0 0 0) + total x0 x1 x2 x3 * w := by
  rw [step_apply]
  rfl

/-- The weight of a symmetric point: off-diagonal tiles that stand for their mirror image count twice. -/
def weight (t : ℕ) : EReal := if t % 3 = 1 then ((2 : ℝ) : EReal) else ((1 : ℝ) : EReal)

end Cert.KernelIdeal.GramValue

end
-- ==== Proof.GramXX.lean ====
/-
  The first kernel-sum call, dense features against themselves: what it leaves in lane 0 of its output.
-/
module

public import proofs.«01_k».proof.Proof.GramCore

@[expose] public section

set_option maxRecDepth 16384

noncomputable section

open Idealize.ShloMosaic Idealize.ShloMosaic.TcCoe Idealize.SL.Sem
open Idealize.ShloMosaic.Pipeline (Dat)

namespace Cert.KernelIdeal.GramValue

open Cert.KernelIdeal Cert.KernelIdeal.Gen

variable (V : (c : Dev nD) → (b : Ref sig .tc) → Buf (Elt Ideal) ((c : Thread nD τ).loc b)) (c : Dev nD)

theorem xx_weight (t : Fin cfg1.N) : k1_pay3 (F := Ideal) (grid1.coords t) = weight t := by
  rcases fin_N1 t with h | h | h | h | h | h | h | h | h | h | h | h <;> subst h <;>
    first
    | exact Consts.two
    | exact Consts.one

theorem xx_step (t : Fin cfg1.N) (h : ¬t.val % 12 = 0) :
    outsAt1 V c t t.isLt
      = step (k1_pay3 (F := Ideal) (grid1.coords t)) (iblk1 V c 0 t) (iblk1 V c 1 t) (iblk1 V c 2 t) (iblk1 V c 3 t)
          (outsAt1 V c (t.val - 1) (by omega)) := by
  rw [outsAt1_B V c t h]
  frame_out
  rfl

theorem xx_first (t : Fin cfg1.N) (h : t.val % 12 = 0) :
    outsAt1 V c t t.isLt
      = step (k1_pay3 (F := Ideal) (grid1.coords t)) (iblk1 V c 0 t) (iblk1 V c 1 t) (iblk1 V c 2 t) (iblk1 V c 3 t)
          (fun _ => 0) := by
  rw [outsAt1_A V c t h]
  frame_out
  rw [show (k1_pay1 (F := Ideal)) = fun _ => (0 : EReal) from funext fun _ => Ideal.ofBits_zero_f32]
  rfl

theorem xx_idx : ∀ t : Fin cfg1.N,
    win1_0.index t = ![t.val / 3, 0] ∧ win1_1.index t = ![(t.val / 3 + t.val % 3) % 4, 0]
      ∧ win1_2.index t = ![t.val / 3, 0] ∧ win1_3.index t = ![0, (t.val / 3 + t.val % 3) % 4] :=
  (by decide +kernel : ∀ t : Fin grid1.N, _)

theorem xx_lt (t : Fin cfg1.N) : t.val < 12 := lt_of_lt_of_eq t.isLt N_1

theorem xx_total (t : Fin cfg1.N) :
    total (iblk1 V c 0 t) (iblk1 V c 1 t) (iblk1 V c 2 t) (iblk1 V c 3 t)
      = tile (V c main_v26) (V c main_v26) (V c main_v32) (V c main_v36) ⟨t / 3, by have := xx_lt t; omega⟩
          ⟨(t / 3 + t % 3) % 4, by omega⟩ := by
  obtain ⟨h0, h1, h2, h3⟩ := xx_idx t
  refine total_eq _ _ _ _ _ _ _ _ _ _ (fun r k => ?_) (fun r k => ?_) (fun r => ?_) (fun r => ?_)
  · blk_ext! [iblk1, h0]
  · blk_ext! [iblk1, h1]
  · blk_ext! [iblk1, h2]
  · blk_ext! [iblk1, h3]

/-- Lane 0 after the last point: the twelve tiles, weighted. -/
theorem xx_value :
    (dat1 V c).arrAt 4 cfg1.N (ix3 0 0 0)
      = ∑ t : Fin 12, tile (V c main_v26) (V c main_v26) (V c main_v32) (V c main_v36) ⟨t / 3, by omega⟩
          ⟨(t / 3 + t % 3) % 4, by omega⟩ * weight t := by
  have e : (dat1 V c).arrAt 4 cfg1.N = outsAt1 V c t1_11 t1_11.isLt :=
    (dat1 V c).arrAt_eq_of_after_last 4 t1_11 (by decide +kernel) _ fun j => by
      blk_simp
      rw [after1_4]
  rw [e]
  rw [Pipeline.eq_sum_fin_of_reset_step_apply_last (fun n h (_ : Unit) => outsAt1 V c n h (ix3 0 0 0)) 12 (fun _ => 0)
    (fun t _ => total (iblk1 V c 0 t) (iblk1 V c 1 t) (iblk1 V c 2 t) (iblk1 V c 3 t) * weight t)
    (fun t h _ => by rw [xx_first V c t h, step_lane, xx_weight]) (fun t h _ => by rw [xx_step V c t h, step_lane, xx_weight])
    (le_of_eq N_1) t1_11 rfl (), zero_add]
  exact Fin.sum_fin_congr fun t => by rw [xx_total]

end Cert.KernelIdeal.GramValue

end
-- ==== Proof.GramYY.lean ====
/-
  The second kernel-sum call, sparse features against themselves: what it leaves in lane 0 of its output.
-/
module

public import proofs.«01_k».proof.Proof.GramCore

@[expose] public section

set_option maxRecDepth 16384

noncomputable section

open Idealize.ShloMosaic Idealize.ShloMosaic.TcCoe Idealize.SL.Sem
open Idealize.ShloMosaic.Pipeline (Dat)

namespace Cert.KernelIdeal.GramValue

open Cert.KernelIdeal Cert.KernelIdeal.Gen

variable (V : (c : Dev nD) → (b : Ref sig .tc) → Buf (Elt Ideal) ((c : Thread nD τ).loc b)) (c : Dev nD)

theorem yy_weight (t : Fin cfg2.N) : k2_pay3 (F := Ideal) (grid2.coords t) = weight t := by
  rcases fin_N2 t with h | h | h | h | h | h | h | h | h | h | h | h <;> subst h <;>
    first
    | exact Consts.two
    | exact Consts.one

theorem yy_step (t : Fin cfg2.N) (h : ¬t.val % 12 = 0) :
    outsAt2 V c t t.isLt
      = step (k2_pay3 (F := Ideal) (grid2.coords t)) (iblk2 V c 0 t) (iblk2 V c 1 t) (iblk2 V c 2 t) (iblk2 V c 3 t)
          (outsAt2 V c (t.val - 1) (by omega)) := by
  rw [outsAt2_B V c t h]
  frame_out
  rfl

theorem yy_first (t : Fin cfg2.N) (h : t.val % 12 = 0) :
    outsAt2 V c t t.isLt
      = step (k2_pay3 (F := Ideal) (grid2.coords t)) (iblk2 V c 0 t) (iblk2 V c 1 t) (iblk2 V c 2 t) (iblk2 V c 3 t)
          (fun _ => 0) := by
  rw [outsAt2_A V c t h]
  frame_out
  rw [show (k2_pay1 (F := Ideal)) = fun _ => (0 : EReal) from funext fun _ => Ideal.ofBits_zero_f32]
  rfl

theorem yy_idx : ∀ t : Fin cfg2.N,
    win2_0.index t = ![t.val / 3, 0] ∧ win2_1.index t = ![(t.val / 3 + t.val % 3) % 4, 0]
      ∧ win2_2.index t = ![t.val / 3, 0] ∧ win2_3.index t = ![0, (t.val / 3 + t.val % 3) % 4] :=
  (by decide +kernel : ∀ t : Fin grid2.N, _)

theorem yy_lt (t : Fin cfg2.N) : t.val < 12 := lt_of_lt_of_eq t.isLt N_2

theorem yy_total (t : Fin cfg2.N) :
    total (iblk2 V c 0 t) (iblk2 V c 1 t) (iblk2 V c 2 t) (iblk2 V c 3 t)
      = tile (V c main_v29) (V c main_v29) (V c main_v35) (V c main_v37) ⟨t / 3, by have := yy_lt t; omega⟩
          ⟨(t / 3 + t % 3) % 4, by omega⟩ := by
  obtain ⟨h0, h1, h2, h3⟩ := yy_idx t
  refine total_eq _ _ _ _ _ _ _ _ _ _ (fun r k => ?_) (fun r k => ?_) (fun r => ?_) (fun r => ?_)
  · blk_ext! [iblk2, h0]
  · blk_ext! [iblk2, h1]
  · blk_ext! [iblk2, h2]
  · blk_ext! [iblk2, h3]

/-- Lane 0 after the last point: the twelve tiles, weighted. -/
theorem yy_value :
    (dat2 V c).arrAt 4 cfg2.N (ix3 0 0 0)
      = ∑ t : Fin 12, tile (V c main_v29) (V c main_v29) (V c main_v35) (V c main_v37) ⟨t / 3, by omega⟩
          ⟨(t / 3 + t % 3) % 4, by omega⟩ * weight t := by
  have e : (dat2 V c).arrAt 4 cfg2.N = outsAt2 V c t2_11 t2_11.isLt :=
    (dat2 V c).arrAt_eq_of_after_last 4 t2_11 (by decide +kernel) _ fun j => by
      blk_simp
      rw [after2_4]
  rw [e]
  rw [Pipeline.eq_sum_fin_of_reset_step_apply_last (fun n h (_ : Unit) => outsAt2 V c n h (ix3 0 0 0)) 12 (fun _ => 0)
    (fun t _ => total (iblk2 V c 0 t) (iblk2 V c 1 t) (iblk2 V c 2 t) (iblk2 V c 3 t) * weight t)
    (fun t h _ => by rw [yy_first V c t h, step_lane, yy_weight]) (fun t h _ => by rw [yy_step V c t h, step_lane, yy_weight])
    (le_of_eq N_2) t2_11 rfl (), zero_add]
  exact Fin.sum_fin_congr fun t => by rw [yy_total]

end Cert.KernelIdeal.GramValue

end
-- ==== Proof.GramXY.lean ====
/-
  The third kernel-sum call, dense features against sparse ones: what it leaves in lane 0 of its output.
-/
module

public import proofs.«01_k».proof.Proof.GramCore

@[expose] public section

set_option maxRecDepth 16384

noncomputable section

open Idealize.ShloMosaic Idealize.ShloMosaic.TcCoe Idealize.SL.Sem
open Idealize.ShloMosaic.Pipeline (Dat)

namespace Cert.KernelIdeal.GramValue

open Cert.KernelIdeal Cert.KernelIdeal.Gen

variable (V : (c : Dev nD) → (b : Ref sig .tc) → Buf (Elt Ideal) ((c : Thread nD τ).loc b)) (c : Dev nD)

theorem xy_step (t : Fin cfg3.N) (h : ¬t.val % 16 = 0) :
    outsAt3 V c t t.isLt
      = step ((1 : ℝ) : EReal) (iblk3 V c 0 t) (iblk3 V c 1 t) (iblk3 V c 2 t) (iblk3 V c 3 t)
          (outsAt3 V c (t.val - 1) (by omega)) := by
  rw [outsAt3_B V c t h]
  frame_out
  rw [← Consts.one]
  rfl

theorem xy_first (t : Fin cfg3.N) (h : t.val % 16 = 0) :
    outsAt3 V c t t.isLt
      = step ((1 : ℝ) : EReal) (iblk3 V c 0 t) (iblk3 V c 1 t) (iblk3 V c 2 t) (iblk3 V c 3 t)
          (fun _ => 0) := by
  rw [outsAt3_A V c t h]
  frame_out
  rw [← Consts.one, show (k3_pay46 (F := Ideal)) = fun _ => (0 : EReal) from funext fun _ => Ideal.ofBits_zero_f32]
  rfl

theorem xy_idx : ∀ t : Fin cfg3.N,
    win3_0.index t = ![t.val / 4, 0] ∧ win3_1.index t = ![t.val % 4, 0]
      ∧ win3_2.index t = ![t.val / 4, 0] ∧ win3_3.index t = ![0, t.val % 4] :=
  (by decide +kernel : ∀ t : Fin grid3.N, _)

theorem xy_lt (t : Fin cfg3.N) : t.val < 16 := lt_of_lt_of_eq t.isLt N_3

theorem xy_total (t : Fin cfg3.N) :
    total (iblk3 V c 0 t) (iblk3 V c 1 t) (iblk3 V c 2 t) (iblk3 V c 3 t)
      = tile (V c main_v26) (V c main_v29) (V c main_v32) (V c main_v37) ⟨t / 4, by have := xy_lt t; omega⟩
          ⟨t % 4, by omega⟩ := by
  obtain ⟨h0, h1, h2, h3⟩ := xy_idx t
  refine total_eq _ _ _ _ _ _ _ _ _ _ (fun r k => ?_) (fun r k => ?_) (fun r => ?_) (fun r => ?_)
  · blk_ext! [iblk3, h0]
  · blk_ext! [iblk3, h1]
  · blk_ext! [iblk3, h2]
  · blk_ext! [iblk3, h3]

/-- Lane 0 after the last point: the sixteen tiles, each once. -/
theorem xy_value :
    (dat3 V c).arrAt 4 cfg3.N (ix3 0 0 0)
      = ∑ t : Fin 16, tile (V c main_v26) (V c main_v29) (V c main_v32) (V c main_v37) ⟨t / 4, by omega⟩
          ⟨t % 4, by omega⟩ * ((1 : ℝ) : EReal) := by
  have e : (dat3 V c).arrAt 4 cfg3.N = outsAt3 V c t3_15 t3_15.isLt :=
    (dat3 V c).arrAt_eq_of_after_last 4 t3_15 (by decide +kernel) _ fun j => by
      blk_simp
      rw [after3_4]
  rw [e]
  rw [Pipeline.eq_sum_fin_of_reset_step_apply_last (fun n h (_ : Unit) => outsAt3 V c n h (ix3 0 0 0)) 16 (fun _ => 0)
    (fun t _ => total (iblk3 V c 0 t) (iblk3 V c 1 t) (iblk3 V c 2 t) (iblk3 V c 3 t) * ((1 : ℝ) : EReal))
    (fun t h _ => by rw [xy_first V c t h, step_lane]) (fun t h _ => by rw [xy_step V c t h, step_lane])
    (le_of_eq N_3) t3_15 rfl (), zero_add]
  exact Fin.sum_fin_congr fun t => by rw [xy_total]

end Cert.KernelIdeal.GramValue

end
-- ==== Proof.Fold.lean ====
/-
  The idealized kernel's result as one expression of its arguments: the four calls' outputs and the host arithmetic
  between them, read back through the chain.
-/
module

public import proofs.«01_k».proof.Proof.Stats
public import proofs.«01_k».proof.Proof.GramXX
public import proofs.«01_k».proof.Proof.GramYY
public import proofs.«01_k».proof.Proof.GramXY

@[expose] public section

set_option maxRecDepth 16384

noncomputable section

open Idealize.ShloMosaic Idealize.ShloMosaic.TcCoe Idealize.SL.Sem

namespace Cert.KernelIdeal.Fold

open Cert.KernelIdeal Cert.KernelIdeal.Gen Cert.KernelIdeal.StatsValue Cert.KernelIdeal.GramValue

/-- A feature array. -/
abbrev Feat := S4096x1024.Idx → EReal

/-! ## The expression -/

/-- A column's sum over both feature arrays. -/
def colSum (D S : Feat) (k : Fin 1024) : EReal := ∑ r : Fin 4096, D (ix2 r k) + ∑ r : Fin 4096, S (ix2 r k)

/-- The sum of all squared distances, by the sums of squares and of columns. -/
def sumL2 (D S : Feat) : EReal :=
  ((16384 : ℝ) : EReal) * (∑ r : Fin 4096, sumSq D r + ∑ r : Fin 4096, sumSq S r)
    - ((2 : ℝ) : EReal) * ∑ k : Fin 1024, colSum D S k * colSum D S k

/-- The factor of a squared distance in the widest Gaussian's binary exponent. -/
def rate (D S : Feat) : EReal :=
  Ideal.div (Ideal.div ((1 / 4 : ℝ) : EReal) (Ideal.log ((2 : ℝ) : EReal))) (Ideal.div (sumL2 D S) ((67100672 : ℝ) : EReal))

/-- One pair's five Gaussians, at the rate `a`. -/
def gauss (a : EReal) (X Y : Feat) (r s : Fin 4096) : EReal :=
  five (min (sumSq X r * -a + sumSq Y s * -a
    + ∑ k : Fin 1024, (X (ix2 r k) * Ideal.sqrt (((2 : ℝ) : EReal) * a)) * (Y (ix2 s k) * Ideal.sqrt (((2 : ℝ) : EReal) * a))) 0)

/-- A tile of pairs. -/
def gaussTile (a : EReal) (X Y : Feat) (i j : Fin 4) : EReal :=
  ∑ r : Fin 1024, ∑ s : Fin 1024, gauss a X Y ⟨i * 1024 + r, by omega⟩ ⟨j * 1024 + s, by omega⟩

/-- Twelve tiles that stand for all sixteen of a symmetric sum. -/
def symSum (a : EReal) (X : Feat) : EReal :=
  ∑ t : Fin 12, gaussTile a X X ⟨t / 3, by omega⟩ ⟨(t / 3 + t % 3) % 4, by omega⟩ * weight t

/-- All sixteen tiles. -/
def crossSum (a : EReal) (X Y : Feat) : EReal :=
  ∑ t : Fin 16, gaussTile a X Y ⟨t / 4, by omega⟩ ⟨t % 4, by omega⟩ * ((1 : ℝ) : EReal)

/-- The three losses, weighted. -/
def combine (nll md mmd : EReal) : EReal :=
  Ideal.ofBits .f32 0x3DCCCCCD#32 * nll + Ideal.ofBits .f32 0x3A83126F#32 * md + Ideal.ofBits .f32 0x3F000000#32 * mmd

def result (P : S4096x40.Idx → EReal) (tg : S4096x1.Idx → BitVec 32) (T : S4096x64x64.Idx → EReal) (D S : Feat) : EReal :=
  combine (Ideal.div (-∑ r : Fin 4096, pick P tg r) ((4096 : ℝ) : EReal))
    (Ideal.div (∑ r : Fin 4096, dist T r) ((4096 : ℝ) : EReal))
    (Ideal.div (symSum (rate D S) D + symSum (rate D S) S - ((2 : ℝ) : EReal) * crossSum (rate D S) D S)
      ((16777216 : ℝ) : EReal))

/-! ## The host stretches, from any contents -/

section Host

variable (W : Valuation τ sig (Elt Ideal))

/-- The rate, from what the statistics call left. -/
def rateOf (W : Valuation τ sig (Elt Ideal)) : EReal :=
  Ideal.div (Ideal.div (Ideal.ofBits .f32 0x3E800000#32) (Ideal.log (Ideal.ofBits .f32 0x40000000#32)))
    (Ideal.div
      (Ideal.ofBits .f32 0x46800000#32 * (show EReal from W (Proc.tc.devRef main_v1_3) (ix3 0 0 2))
        - Ideal.ofBits .f32 0x40000000#32
          * ∑ x : Fin 1024, (show EReal from W (Proc.tc.devRef main_v1_2) (ix3 0 0 x)) * (show EReal from W (Proc.tc.devRef main_v1_2) (ix3 0 0 x)))
      (Ideal.ofBits .f32 0x4C7FF800#32))

theorem host_target (r : Fin 4096) :
    StableHlo.after hostOps0 W (Proc.tc.devRef main_v0) (ix2 r 0) = W (Proc.tc.devRef main_arg1) (ix1 r) := by
  after_results
  pointwise

theorem host_nll (i : S_.Idx) :
    StableHlo.after hostOps1 W (Proc.tc.devRef main_v5) i
      = Ideal.div (-(show EReal from W (Proc.tc.devRef main_v1_3) (ix3 0 0 0))) (Ideal.ofBits .f32 0x45800000#32) := by
  after_results
  pointwise

theorem host_md (i : S_.Idx) :
    StableHlo.after hostOps1 W (Proc.tc.devRef main_v8) i
      = Ideal.div (show EReal from W (Proc.tc.devRef main_v1_3) (ix3 0 0 1)) (Ideal.ofBits .f32 0x45800000#32) := by
  after_results
  pointwise

theorem host_dense (i : S4096x1024.Idx) :
    StableHlo.after hostOps1 W (Proc.tc.devRef main_v26) i
      = (show EReal from W (Proc.tc.devRef main_arg3) i) * Ideal.sqrt (Ideal.ofBits .f32 0x40000000#32 * rateOf W) := by
  after_results
  pointwise
  rfl

theorem host_sparse (i : S4096x1024.Idx) :
    StableHlo.after hostOps1 W (Proc.tc.devRef main_v29) i
      = (show EReal from W (Proc.tc.devRef main_arg4) i) * Ideal.sqrt (Ideal.ofBits .f32 0x40000000#32 * rateOf W) := by
  after_results
  pointwise
  rfl

theorem host_colD (r : Fin 4096) :
    StableHlo.after hostOps1 W (Proc.tc.devRef main_v32) (ix2 r 0)
      = (show EReal from W (Proc.tc.devRef main_v1_0) (ix2 r 0)) * -rateOf W := by
  after_results
  pointwise
  rfl

theorem host_rowD (r : Fin 4096) :
    StableHlo.after hostOps1 W (Proc.tc.devRef main_v36) (ix2 0 r)
      = (show EReal from W (Proc.tc.devRef main_v1_0) (ix2 r 0)) * -rateOf W := by
  after_results
  pointwise
  rfl

theorem host_colS (r : Fin 4096) :
    StableHlo.after hostOps1 W (Proc.tc.devRef main_v35) (ix2 r 0)
      = (show EReal from W (Proc.tc.devRef main_v1_1) (ix2 r 0)) * -rateOf W := by
  after_results
  pointwise
  rfl

theorem host_rowS (r : Fin 4096) :
    StableHlo.after hostOps1 W (Proc.tc.devRef main_v37) (ix2 0 r)
      = (show EReal from W (Proc.tc.devRef main_v1_1) (ix2 r 0)) * -rateOf W := by
  after_results
  pointwise
  rfl

theorem host_xx (i : S_.Idx) :
    StableHlo.after hostOps2 W (Proc.tc.devRef main_v40) i = W (Proc.tc.devRef main_v38) (ix3 0 0 0) := by
  after_results
  pointwise

theorem host_yy (i : S_.Idx) :
    StableHlo.after hostOps3 W (Proc.tc.devRef main_v43) i = W (Proc.tc.devRef main_v41) (ix3 0 0 0) := by
  after_results
  pointwise

theorem host_result (i : S_.Idx) :
    StableHlo.after hostOps4 W (Proc.tc.devRef main_v55) i
      = combine (W (Proc.tc.devRef main_v5) i) (W (Proc.tc.devRef main_v8) i)
          (Ideal.div ((show EReal from W (Proc.tc.devRef main_v40) i) + (show EReal from W (Proc.tc.devRef main_v43) i)
              - Ideal.ofBits .f32 0x40000000#32 * (show EReal from W (Proc.tc.devRef main_v44) (ix3 0 0 0)))
            (Ideal.ofBits .f32 0x4B800000#32)) := by
  after_results
  pointwise
  rfl

end Host

/-! ## Which buffers an item of the chain leaves alone -/

variable (m : (ℓ : Loc nD τ sig) → Buf (Elt Ideal) ℓ) (ρ : Dev nD → PrngReg) (c : Dev nD)

theorem keep4 (r : Ref sig .tc) (h : ∀ w : Fin cfg1.W, Pipeline.arrRef spec1 w = r → (cfg1.win w).isOut = false)
    (h' : r ∉ hostOps2_W) : W5 m ρ c (Proc.devRef .tc r) = W3 m ρ c (Proc.devRef .tc r) :=
  (W5_of m ρ c r h').trans (W4_of m ρ c r h)

theorem keep6 (r : Ref sig .tc) (h : ∀ w : Fin cfg2.W, Pipeline.arrRef spec2 w = r → (cfg2.win w).isOut = false)
    (h' : r ∉ hostOps3_W) : W7 m ρ c (Proc.devRef .tc r) = W5 m ρ c (Proc.devRef .tc r) :=
  (W7_of m ρ c r h').trans (W6_of m ρ c r h)

theorem keep (r : Ref sig .tc) (h1 : ∀ w : Fin cfg1.W, Pipeline.arrRef spec1 w = r → (cfg1.win w).isOut = false)
    (h2 : r ∉ hostOps2_W) (h3 : ∀ w : Fin cfg2.W, Pipeline.arrRef spec2 w = r → (cfg2.win w).isOut = false)
    (h4 : r ∉ hostOps3_W) : W7 m ρ c (Proc.devRef .tc r) = W3 m ρ c (Proc.devRef .tc r) :=
  (keep6 m ρ c r h3 h4).trans (keep4 m ρ c r h1 h2)

/-! ## The arguments at the calls -/

def argP : S4096x40.Idx → EReal := m ((c.tc : Thread nD τ).loc main_arg0)
def argTg : S4096.Idx → BitVec 32 := m ((c.tc : Thread nD τ).loc main_arg1)
def argT : S4096x64x64.Idx → EReal := m ((c.tc : Thread nD τ).loc main_arg2)
def argD : Feat := m ((c.tc : Thread nD τ).loc main_arg3)
def argS : Feat := m ((c.tc : Thread nD τ).loc main_arg4)

theorem dense_eq : dense (V1 m ρ) c = argD m c := W1_of m ρ c main_arg3 (by decide)
theorem sparse_eq : sparse (V1 m ρ) c = argS m c := W1_of m ρ c main_arg4 (by decide)
theorem pred_eq : pred (V1 m ρ) c = argP m c := W1_of m ρ c main_arg0 (by decide)
theorem trans_eq : trans (V1 m ρ) c = argT m c := W1_of m ρ c main_arg2 (by decide)

theorem dense_W2 : W2 m ρ c (Proc.devRef .tc main_arg3) = argD m c :=
  (W2_of m ρ c main_arg3 (by decide)).trans (dense_eq m ρ c)
theorem sparse_W2 : W2 m ρ c (Proc.devRef .tc main_arg4) = argS m c :=
  (W2_of m ρ c main_arg4 (by decide)).trans (sparse_eq m ρ c)

/-- The statistics, where the host finds them. -/
theorem stat_rate : rateOf (W2 m ρ c) = rate (argD m c) (argS m c) := by
  have e3 : W2 m ρ c (Proc.devRef .tc main_v1_3) (ix3 0 0 2)
      = ∑ r : Fin 4096, sumSq (argD m c) r + ∑ r : Fin 4096, sumSq (argS m c) r := by
    rw [← dense_eq m ρ, ← sparse_eq m ρ, ← square_value]
    exact congrFun (W2_arr m ρ c 8) _
  have e2 : ∀ k, W2 m ρ c (Proc.devRef .tc main_v1_2) (ix3 0 0 k) = colSum (argD m c) (argS m c) k := fun k => by
    rw [colSum, ← dense_eq m ρ, ← sparse_eq m ρ, ← column_value]
    exact congrFun (W2_arr m ρ c 7) _
  simp only [rateOf, e3, e2, Consts.quarter, Consts.two, Consts.twiceRows, Consts.pairs]
  rfl

end Cert.KernelIdeal.Fold

end
-- ==== Proof.KernelValue.lean ====
/-
  The idealized kernel's result, read through the whole chain, is `Fold.result` of the arguments.
-/
module

public import proofs.«01_k».proof.Proof.Fold

@[expose] public section

set_option maxRecDepth 16384

noncomputable section

open Idealize.ShloMosaic Idealize.ShloMosaic.TcCoe Idealize.SL.Sem

namespace Cert.KernelIdeal.Fold

open Cert.KernelIdeal Cert.KernelIdeal.Gen Cert.KernelIdeal.StatsValue Cert.KernelIdeal.GramValue

/-- Sums of extended reals, term by term. -/
theorem sum_eq {n : ℕ} {f g : Fin n → EReal} (h : ∀ t, f t = g t) : ∑ t, f t = ∑ t, g t :=
  Finset.sum_congr rfl fun t _ => h t

/-- Tiles over the scaled arrays are tiles of Gaussians. -/
theorem tile_gauss (a : EReal) (D S : Feat) (X Y : Feat) (p : S4096x1.Idx → EReal) (q : S1x4096.Idx → EReal)
    (hX : ∀ r k, X (ix2 r k) = D (ix2 r k) * Ideal.sqrt (((2 : ℝ) : EReal) * a))
    (hY : ∀ r k, Y (ix2 r k) = S (ix2 r k) * Ideal.sqrt (((2 : ℝ) : EReal) * a))
    (hp : ∀ r, p (ix2 r 0) = sumSq D r * -a) (hq : ∀ r, q (ix2 0 r) = sumSq S r * -a) (i j : Fin 4) :
    tile X Y p q i j = gaussTile a D S i j := by
  refine Finset.sum_congr rfl fun r _ => Finset.sum_congr rfl fun s _ => ?_
  rw [gpair, gauss, hp, hq]
  simp only [hX, hY]

variable (m : (ℓ : Loc nD τ sig) → Buf (Elt Ideal) ℓ) (ρ : Dev nD → PrngReg) (c : Dev nD)

/-- The rate at the launch's arguments. -/
abbrev a : EReal := rate (argD m c) (argS m c)

theorem at_dense (r : Fin 4096) (k : Fin 1024) :
    W3 m ρ c (Proc.devRef .tc main_v26) (ix2 r k) = argD m c (ix2 r k) * Ideal.sqrt (((2 : ℝ) : EReal) * a m c) := by
  rw [show a m c = rateOf (W2 m ρ c) from (stat_rate m ρ c).symm, ← Consts.two, ← dense_W2 m ρ]
  exact host_dense (W2 m ρ c) _

theorem at_sparse (r : Fin 4096) (k : Fin 1024) :
    W3 m ρ c (Proc.devRef .tc main_v29) (ix2 r k) = argS m c (ix2 r k) * Ideal.sqrt (((2 : ℝ) : EReal) * a m c) := by
  rw [show a m c = rateOf (W2 m ρ c) from (stat_rate m ρ c).symm, ← Consts.two, ← sparse_W2 m ρ]
  exact host_sparse (W2 m ρ c) _

theorem sq_at_dense (r : Fin 4096) : W2 m ρ c (Proc.devRef .tc main_v1_0) (ix2 r 0) = sumSq (argD m c) r := by
  rw [← dense_eq m ρ, ← dense_value]
  exact congrFun (W2_arr m ρ c 5) _

theorem sq_at_sparse (r : Fin 4096) : W2 m ρ c (Proc.devRef .tc main_v1_1) (ix2 r 0) = sumSq (argS m c) r := by
  rw [← sparse_eq m ρ, ← sparse_value]
  exact congrFun (W2_arr m ρ c 6) _

theorem at_colD (r : Fin 4096) : W3 m ρ c (Proc.devRef .tc main_v32) (ix2 r 0) = sumSq (argD m c) r * -a m c := by
  rw [show a m c = rateOf (W2 m ρ c) from (stat_rate m ρ c).symm, ← sq_at_dense m ρ]
  exact host_colD (W2 m ρ c) r

theorem at_rowD (r : Fin 4096) : W3 m ρ c (Proc.devRef .tc main_v36) (ix2 0 r) = sumSq (argD m c) r * -a m c := by
  rw [show a m c = rateOf (W2 m ρ c) from (stat_rate m ρ c).symm, ← sq_at_dense m ρ]
  exact host_rowD (W2 m ρ c) r

theorem at_colS (r : Fin 4096) : W3 m ρ c (Proc.devRef .tc main_v35) (ix2 r 0) = sumSq (argS m c) r * -a m c := by
  rw [show a m c = rateOf (W2 m ρ c) from (stat_rate m ρ c).symm, ← sq_at_sparse m ρ]
  exact host_colS (W2 m ρ c) r

theorem at_rowS (r : Fin 4096) : W3 m ρ c (Proc.devRef .tc main_v37) (ix2 0 r) = sumSq (argS m c) r * -a m c := by
  rw [show a m c = rateOf (W2 m ρ c) from (stat_rate m ρ c).symm, ← sq_at_sparse m ρ]
  exact host_rowS (W2 m ρ c) r

/-- The dense-dense sum. -/
theorem xx_eq (i : S_.Idx) : W8 m ρ c (Proc.devRef .tc main_v40) i = symSum (a m c) (argD m c) := by
  rw [W8_of m ρ c main_v40 (by decide), keep6 m ρ c main_v40 (by decide) (by decide)]
  refine (host_xx (W4 m ρ c) i).trans ((congrFun (W4_arr m ρ c 4) _).trans ((xx_value (V3 m ρ) c).trans ?_))
  refine sum_eq fun t => congrArg (· * weight t) ?_
  exact tile_gauss _ _ _ _ _ _ _ (at_dense m ρ c) (at_dense m ρ c) (at_colD m ρ c) (at_rowD m ρ c) _ _

/-- The sparse-sparse sum. -/
theorem yy_eq (i : S_.Idx) : W8 m ρ c (Proc.devRef .tc main_v43) i = symSum (a m c) (argS m c) := by
  rw [W8_of m ρ c main_v43 (by decide)]
  refine (host_yy (W6 m ρ c) i).trans ((congrFun (W6_arr m ρ c 4) _).trans ((yy_value (V5 m ρ) c).trans ?_))
  refine sum_eq fun t => congrArg (· * weight t) ?_
  refine tile_gauss _ _ _ _ _ _ _ (fun r k => ?_) (fun r k => ?_) (fun r => ?_) (fun r => ?_) _ _
  · exact (congrFun (keep4 m ρ c main_v29 (by decide) (by decide)) _).trans (at_sparse m ρ c r k)
  · exact (congrFun (keep4 m ρ c main_v29 (by decide) (by decide)) _).trans (at_sparse m ρ c r k)
  · exact (congrFun (keep4 m ρ c main_v35 (by decide) (by decide)) _).trans (at_colS m ρ c r)
  · exact (congrFun (keep4 m ρ c main_v37 (by decide) (by decide)) _).trans (at_rowS m ρ c r)

/-- The dense-sparse sum. -/
theorem xy_eq : W8 m ρ c (Proc.devRef .tc main_v44) (ix3 0 0 0) = crossSum (a m c) (argD m c) (argS m c) := by
  refine (congrFun (W8_arr m ρ c 4) _).trans ((xy_value (V7 m ρ) c).trans ?_)
  refine sum_eq fun t => congrArg (· * ((1 : ℝ) : EReal)) ?_
  refine tile_gauss _ _ _ _ _ _ _ (fun r k => ?_) (fun r k => ?_) (fun r => ?_) (fun r => ?_) _ _
  · exact (congrFun (keep m ρ c main_v26 (by decide) (by decide) (by decide) (by decide)) _).trans (at_dense m ρ c r k)
  · exact (congrFun (keep m ρ c main_v29 (by decide) (by decide) (by decide) (by decide)) _).trans (at_sparse m ρ c r k)
  · exact (congrFun (keep m ρ c main_v32 (by decide) (by decide) (by decide) (by decide)) _).trans (at_colD m ρ c r)
  · exact (congrFun (keep m ρ c main_v37 (by decide) (by decide) (by decide) (by decide)) _).trans (at_rowS m ρ c r)

/-- The target as the statistics call reads it: a column. -/
def column (tg : S4096.Idx → BitVec 32) : S4096x1.Idx → BitVec 32 := fun i => tg (ix1 (i 0))

theorem nll_eq (i : S_.Idx) :
    W8 m ρ c (Proc.devRef .tc main_v5) i
      = Ideal.div (-∑ r : Fin 4096, pick (argP m c) (column (argTg m c)) r) ((4096 : ℝ) : EReal) := by
  rw [W8_of m ρ c main_v5 (by decide), keep m ρ c main_v5 (by decide) (by decide) (by decide) (by decide)]
  refine (host_nll (W2 m ρ c) i).trans ?_
  rw [Consts.rows]
  refine congrArg (fun x => Ideal.div (-x) _) ((congrFun (W2_arr m ρ c 8) _).trans ((picked_value (V1 m ρ) c).trans ?_))
  rw [pred_eq m ρ]
  refine sum_eq fun r => ?_
  rw [pick, pick, show target (V1 m ρ) c (ix2 r 0) = column (argTg m c) (ix2 r 0) from host_target (W0 m ρ c) r]

theorem md_eq (i : S_.Idx) :
    W8 m ρ c (Proc.devRef .tc main_v8) i = Ideal.div (∑ r : Fin 4096, dist (argT m c) r) ((4096 : ℝ) : EReal) := by
  rw [W8_of m ρ c main_v8 (by decide), keep m ρ c main_v8 (by decide) (by decide) (by decide) (by decide)]
  refine (host_md (W2 m ρ c) i).trans ?_
  rw [Consts.rows, ← trans_eq m ρ]
  exact congrArg (fun x => Ideal.div x _) ((congrFun (W2_arr m ρ c 8) _).trans (dist_value (V1 m ρ) c))

/-- The result buffer at the end of the chain. -/
theorem value (i : S_.Idx) :
    W9 m ρ c (Proc.devRef .tc main_v55) i
      = result (argP m c) (column (argTg m c)) (argT m c) (argD m c) (argS m c) := by
  refine (host_result (W8 m ρ c) i).trans ?_
  rw [result, nll_eq, md_eq]
  refine congrArg (combine _ _) ?_
  rw [Consts.two, Consts.square]
  exact congrArg (Ideal.div · _) (congrArg₂ (· - ·) (congrArg₂ (fun x y : EReal => x + y) (xx_eq m ρ c i) (yy_eq m ρ c i))
    (congrArg (((2 : ℝ) : EReal) * ·) (xy_eq m ρ c)))

end Cert.KernelIdeal.Fold

end
-- ==== Proof.Pick.lean ====
/-
  In the classes' range, the kernel's one-hot sum and the reference's lookup pick the same entry.
-/
module

public import proofs.«01_k».proof.Proof.RefPick
public import proofs.«01_k».proof.Proof.KernelValue

@[expose] public section

set_option maxRecDepth 16384

noncomputable section

open Idealize.ShloMosaic

namespace Cert.Pick

/-- A target in range is the word of a class. -/
theorem word {t : BitVec 32} (h0 : 0 ≤ t.toInt) (h1 : t.toInt < 40) : ∃ j : Fin 40, t = BitVec.ofNat 32 j := by
  have h : t.toNat < 40 := by
    have h2 := BitVec.toInt_eq_toNat_cond t
    have h3 := t.isLt
    split at h2 <;> omega
  exact ⟨⟨t.toNat, h⟩, by simp⟩

/-- The one-hot sum is the entry. -/
theorem pick_word (P : (⟨2, ![4096, 40]⟩ : Shape).Idx → EReal) (t : (⟨2, ![4096, 1]⟩ : Shape).Idx → BitVec 32) (r : Fin 4096)
    (j : Fin 40) (h : t (ix2 r 0) = BitVec.ofNat 32 j) :
    Cert.KernelIdeal.StatsValue.pick P t r = P (ix2 r j) := by
  rw [Cert.KernelIdeal.StatsValue.pick, h]
  rw [Finset.sum_eq_single j]
  · rw [WordCmp.cmpi_eq_eq, decide_eq_true rfl]
    rfl
  · intro k _ hk
    rw [WordCmp.cmpi_eq_eq, decide_eq_false]
    · rfl
    · intro e
      have := congrArg BitVec.toNat e
      rw [BitVec.toNat_ofNat, BitVec.toNat_ofNat, Nat.mod_eq_of_lt (by omega), Nat.mod_eq_of_lt (by omega)] at this
      exact hk (Fin.ext this)
  · intro hj
    exact absurd (Finset.mem_univ j) hj

/-- A class's word is not wrapped, and is in range. -/
theorem wrap_word (j : Fin 40) : Cert.ReferenceIdeal.Parts.wrap (BitVec.ofNat 32 j) = BitVec.ofNat 32 j := by
  revert j; decide

theorem word_inRange (j : Fin 40) :
    IntOp.andi (IntOp.andi (IntOp.cmpi .sge (BitVec.ofNat 32 j) 0#32) (IntOp.cmpi .sle (BitVec.ofNat 32 j) 39#32)) 1#1 = 1#1 := by
  revert j; decide

theorem word_held (j : Fin 40) : min (BitVec.ofNat 32 j).toInt.toNat 39 = j := by
  revert j; decide

/-- The lookup is the entry. -/
theorem taken_word (P : (⟨2, ![4096, 40]⟩ : Shape).Idx → EReal) (tg : (⟨1, ![4096]⟩ : Shape).Idx → BitVec 32) (r : Fin 4096)
    (j : Fin 40) (h : tg (ix1 r) = BitVec.ofNat 32 j) :
    Cert.ReferenceIdeal.Parts.taken P tg (ix2 r 0) = P (ix2 r j) := by
  have hw : Cert.ReferenceIdeal.Parts.wrapped tg (ix3 r 0 0) = BitVec.ofNat 32 j := by
    rw [Cert.ReferenceIdeal.Parts.wrapped_at, h, wrap_word]
  rw [Cert.ReferenceIdeal.Parts.taken_at, Cert.ReferenceIdeal.Parts.inRange_at, Cert.ReferenceIdeal.Parts.lookup_at]
  simp only [hw, word_inRange, word_held]
  rfl

/-- The two negative log likelihoods. -/
theorem nll_eq (P : (⟨2, ![4096, 40]⟩ : Shape).Idx → EReal) (tg : (⟨1, ![4096]⟩ : Shape).Idx → BitVec 32)
    (h : ∀ r : Fin 4096, 0 ≤ (tg (ix1 r)).toInt ∧ (tg (ix1 r)).toInt < 40) (i : (⟨0, ![]⟩ : Shape).Idx) :
    Cert.ReferenceIdeal.Parts.nll P tg i
      = Ideal.div (-∑ r : Fin 4096, Cert.KernelIdeal.StatsValue.pick P (Cert.KernelIdeal.Fold.column tg) r) ((4096 : ℝ) : EReal) := by
  rw [Cert.ReferenceIdeal.Parts.nll_at, Cert.Consts.rows, Ideal.div_coe (by norm_num), Ideal.div_coe (by norm_num), EReal.neg_mul]
  refine congrArg (fun s : EReal => -(s * ((1 / 4096 : ℝ) : EReal))) (Cert.KernelIdeal.Fold.sum_eq fun r => ?_)
  obtain ⟨j, hj⟩ := word (h r).1 (h r).2
  rw [Fin.sum_univ_one]
  exact (taken_word P tg r j hj).trans (pick_word P (Cert.KernelIdeal.Fold.column tg) r j hj).symm

end Cert.Pick

end
-- ==== Proof.Reals.lean ====
/-
  Facts on finite sums of reals: squared distances, their total, the tiles of a symmetric sum, the distance of a Gram
  matrix from the identity.
-/
module

public import Mathlib.Data.EReal.Operations
public import Mathlib.Algebra.BigOperators.Fin
public import Mathlib.Algebra.Order.BigOperators.Ring.Finset
public import Mathlib.Tactic.Ring
public import Mathlib.Tactic.Linarith
public import Mathlib.Tactic.Positivity

@[expose] public section

noncomputable section

namespace Cert.Reals

/-- A sum of reals among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The squared distance of two rows. -/
def far {n : ℕ} (u v : Fin n → ℝ) : ℝ := ∑ k, u k * u k + ∑ k, v k * v k - 2 * ∑ k, u k * v k

theorem far_eq {n : ℕ} (u v : Fin n → ℝ) : far u v = ∑ k, (u k - v k) * (u k - v k) := by
  rw [far, ← Finset.sum_add_distrib, Finset.mul_sum, ← Finset.sum_sub_distrib]
  exact Finset.sum_congr rfl fun k _ => by ring

theorem far_nonneg {n : ℕ} (u v : Fin n → ℝ) : 0 ≤ far u v := by
  rw [far_eq]
  exact Finset.sum_nonneg fun k _ => mul_self_nonneg _

theorem far_comm {n : ℕ} (u v : Fin n → ℝ) : far u v = far v u := by
  rw [far_eq, far_eq]
  exact Finset.sum_congr rfl fun k _ => by ring

theorem eq_of_far {n : ℕ} {u v : Fin n → ℝ} (h : far u v = 0) (k : Fin n) : u k = v k := by
  rw [far_eq] at h
  have := (Finset.sum_eq_zero_iff_of_nonneg fun k _ => mul_self_nonneg _).mp h k (Finset.mem_univ k)
  exact sub_eq_zero.mp (mul_self_eq_zero.mp this)

/-- All squared distances, by the sums of squares and the sums of columns. -/
theorem sum_far {m n : ℕ} (x : Fin m → Fin n → ℝ) :
    ∑ r, ∑ s, far (x r) (x s)
      = 2 * m * ∑ r, ∑ k, x r k * x r k - 2 * ∑ k, (∑ r, x r k) * (∑ r, x r k) := by
  have h : ∑ k, (∑ r, x r k) * (∑ s, x s k) = ∑ r, ∑ s, ∑ k, x r k * x s k := by
    simp only [Finset.sum_mul_sum]
    rw [Finset.sum_comm]
    exact Finset.sum_congr rfl fun r _ => Finset.sum_comm
  rw [h]
  simp only [far, Finset.sum_sub_distrib, Finset.sum_add_distrib, Finset.sum_const, Finset.card_univ, Fintype.card_fin,
    nsmul_eq_mul, ← Finset.mul_sum]
  ring

/-- A sum over `8192` rows, halved. -/
theorem sum_halves {M : Type} [AddCommMonoid M] (f : Fin 8192 → M) :
    ∑ r, f r = ∑ r : Fin 4096, f ⟨r, by omega⟩ + ∑ r : Fin 4096, f ⟨4096 + r, by omega⟩ :=
  Fin.sum_univ_add (a := 4096) (b := 4096) f

/-- A sum over `4096` rows, in four blocks. -/
theorem sum_blocks {M : Type} [AddCommMonoid M] (f : Fin 4096 → M) :
    ∑ r, f r = ∑ i : Fin 4, ∑ r : Fin 1024, f ⟨i * 1024 + r, by omega⟩ := by
  rw [← Fintype.sum_prod_type', ← Equiv.sum_comp (finProdFinEquiv (m := 4) (n := 1024))]
  refine Finset.sum_congr rfl fun p _ => congrArg f (Fin.ext ?_)
  show p.2.val + 1024 * p.1.val = p.1.val * 1024 + p.2.val
  ring

/-- A tile of a square sum. -/
def tile (g : Fin 4096 → Fin 4096 → ℝ) (i j : Fin 4) : ℝ :=
  ∑ r : Fin 1024, ∑ s : Fin 1024, g ⟨i * 1024 + r, by omega⟩ ⟨j * 1024 + s, by omega⟩

theorem tile_comm {g : Fin 4096 → Fin 4096 → ℝ} (h : ∀ r s, g r s = g s r) (i j : Fin 4) : tile g i j = tile g j i := by
  rw [tile, tile, Finset.sum_comm]
  exact Finset.sum_congr rfl fun s _ => Finset.sum_congr rfl fun r _ => h _ _

theorem sum_tiles (g : Fin 4096 → Fin 4096 → ℝ) : ∑ r, ∑ s, g r s = ∑ i, ∑ j, tile g i j := by
  rw [sum_blocks fun r => ∑ s, g r s]
  refine Finset.sum_congr rfl fun i _ => ?_
  simp only [tile]
  refine Eq.trans ?_ Finset.sum_comm
  exact Finset.sum_congr rfl fun r _ => sum_blocks (g ⟨i * 1024 + r, by omega⟩)

/-- The sixteen tiles in one run. -/
theorem sixteen (q : Fin 4 → Fin 4 → ℝ) :
    ∑ t : Fin 16, q ⟨t / 4, by omega⟩ ⟨t % 4, by omega⟩ = ∑ i, ∑ j, q i j := by
  simp only [Fin.sum_univ_succ, Fin.sum_univ_zero]
  simp [Fin.sum_univ_succ]
  ring

/-- Twelve weighted tiles are all sixteen of a symmetric family. -/
theorem twelve {q : Fin 4 → Fin 4 → ℝ} (h : ∀ i j, q i j = q j i) :
    ∑ t : Fin 12, q ⟨t / 3, by omega⟩ ⟨(t / 3 + t % 3) % 4, by omega⟩ * (if t.val % 3 = 1 then 2 else 1) = ∑ i, ∑ j, q i j := by
  have h01 := h 0 1
  have h02 := h 0 2
  have h03 := h 0 3
  have h12 := h 1 2
  have h13 := h 1 3
  have h23 := h 2 3
  simp [Fin.sum_univ_succ]
  linarith

/-- The distance of a Gram matrix from the identity, by traces. -/
theorem defect_sum {n : ℕ} (t : Fin n → Fin n → ℝ) :
    ∑ a, ∑ b, ((if a = b then 1 else 0) - ∑ k, t a k * t b k) * ((if a = b then 1 else 0) - ∑ k, t a k * t b k)
      = (∑ a, ∑ b, (∑ k, t b k * t a k) * (∑ k, t b k * t a k)) - 2 * (∑ a, ∑ b, t b a * t b a) + n := by
  have hc : ∀ a b, ∑ k, t b k * t a k = ∑ k, t a k * t b k := fun a b => Finset.sum_congr rfl fun k _ => mul_comm _ _
  have hx : ∀ a b : Fin n, ((if a = b then (1 : ℝ) else 0) - ∑ k, t a k * t b k) * ((if a = b then 1 else 0) - ∑ k, t a k * t b k)
      = (∑ k, t a k * t b k) * (∑ k, t a k * t b k) - 2 * (if a = b then ∑ k, t a k * t b k else 0) + if a = b then 1 else 0 := by
    intro a b
    split <;> ring
  simp only [hx, hc]
  simp only [Finset.sum_add_distrib, Finset.sum_sub_distrib, ← Finset.mul_sum, Finset.sum_ite_eq, Finset.mem_univ, if_true,
    Finset.sum_const, Finset.card_univ, Fintype.card_fin, nsmul_eq_mul, mul_one]
  rw [Finset.sum_comm (f := fun a b => t b a * t b a)]

end Cert.Reals

end
-- ==== Proof.Dist.lean ====
/-
  On finite arrays the kernel's distance from the identity, by traces, is the reference's, entry by entry.
-/
module

public import proofs.«01_k».proof.Proof.RefValue
public import proofs.«01_k».proof.Proof.KernelValue
public import proofs.«01_k».proof.Proof.Reals

@[expose] public section

set_option maxRecDepth 16384

noncomputable section

open Idealize.ShloMosaic Cert.Reals

namespace Cert.Dist

/-- An entry of the identity, from the comparison of the two positions. -/
theorem delta (a b : Fin 64) :
    (show EReal from FloatOps.uitofp (F := Ideal) .f32 (IntOp.cmpi .eq (IntOp.addi (BitVec.ofNat 32 a) 0#32) (BitVec.ofNat 32 b)))
      = (((if a = b then 1 else 0 : ℝ)) : EReal) := by
  have h : (IntOp.cmpi .eq (IntOp.addi (BitVec.ofNat 32 a) 0#32) (BitVec.ofNat 32 b)).toNat = if a = b then 1 else 0 := by
    rw [WordCmp.cmpi_eq_eq, show IntOp.addi (BitVec.ofNat 32 a) 0#32 = BitVec.ofNat 32 a from BitVec.add_zero _]
    by_cases e : a = b
    · rw [if_pos e, decide_eq_true (by rw [e])]
      rfl
    · rw [if_neg e, decide_eq_false]
      · rfl
      · intro q
        have := congrArg BitVec.toNat q
        rw [BitVec.toNat_ofNat, BitVec.toNat_ofNat, Nat.mod_eq_of_lt (by omega), Nat.mod_eq_of_lt (by omega)] at this
        exact e (Fin.ext this)
  show (((IntOp.cmpi .eq (IntOp.addi (BitVec.ofNat 32 a) 0#32) (BitVec.ofNat 32 b)).toNat : ℝ) : EReal) = _
  rw [h]
  split <;> simp

variable (T : (⟨3, ![4096, 64, 64]⟩ : Shape).Idx → EReal) (t : Fin 4096 → Fin 64 → Fin 64 → ℝ)
  (hT : ∀ r a k, T (ix3 r a k) = ((t r a k : ℝ) : EReal))

include hT

theorem gram (r : Fin 4096) (a b : Fin 64) :
    ∑ k : Fin 64, T (ix3 r a k) * T (ix3 r b k) = ((∑ k, t r a k * t r b k : ℝ) : EReal) := by
  rw [← coe_sum]
  exact Finset.sum_congr rfl fun k _ => by rw [hT, hT, EReal.coe_mul]

/-- The reference's sum of squares, a real. -/
theorem entries (r : Fin 4096) :
    ∑ a : Fin 64, ∑ b : Fin 64, Cert.ReferenceIdeal.Parts.defectAt T r a b * Cert.ReferenceIdeal.Parts.defectAt T r a b
      = ((∑ a, ∑ b, ((if a = b then 1 else 0) - ∑ k, t r a k * t r b k) * ((if a = b then 1 else 0) - ∑ k, t r a k * t r b k) : ℝ) : EReal) := by
  rw [← coe_sum]
  refine Finset.sum_congr rfl fun a _ => ?_
  rw [← coe_sum]
  refine Finset.sum_congr rfl fun b _ => ?_
  rw [Cert.ReferenceIdeal.Parts.defectAt, delta, gram T t hT, ← EReal.coe_sub, ← EReal.coe_mul]

theorem dist_eq (r : Fin 4096) :
    Cert.KernelIdeal.StatsValue.dist T r
      = Ideal.sqrt (∑ a : Fin 64, ∑ b : Fin 64, Cert.ReferenceIdeal.Parts.defectAt T r a b * Cert.ReferenceIdeal.Parts.defectAt T r a b) := by
  have hG : ∑ a : Fin 64, ∑ b : Fin 64, (∑ k : Fin 64, T (ix3 r b k) * T (ix3 r a k)) * (∑ k : Fin 64, T (ix3 r b k) * T (ix3 r a k))
      = ((∑ a, ∑ b, (∑ k, t r b k * t r a k) * (∑ k, t r b k * t r a k) : ℝ) : EReal) := by
    rw [← coe_sum]
    refine Finset.sum_congr rfl fun a _ => ?_
    rw [← coe_sum]
    refine Finset.sum_congr rfl fun b _ => ?_
    rw [gram T t hT, EReal.coe_mul]
  have hN : ∑ a : Fin 64, ∑ b : Fin 64, T (ix3 r b a) * T (ix3 r b a) = ((∑ a, ∑ b, t r b a * t r b a : ℝ) : EReal) := by
    rw [← coe_sum]
    refine Finset.sum_congr rfl fun a _ => ?_
    rw [← coe_sum]
    refine Finset.sum_congr rfl fun b _ => ?_
    rw [hT, EReal.coe_mul]
  have hd := defect_sum (t r)
  push_cast at hd
  rw [entries T t hT, Cert.KernelIdeal.StatsValue.dist, hG, hN, ← EReal.coe_mul, ← EReal.coe_sub, ← EReal.coe_add, ← hd,
    max_eq_left]
  exact EReal.coe_nonneg.mpr (Finset.sum_nonneg fun a _ => Finset.sum_nonneg fun b _ => mul_self_nonneg _)

/-- The two mean distances. -/
theorem md_eq (i : (⟨0, ![]⟩ : Shape).Idx) :
    Cert.ReferenceIdeal.Parts.md T i
      = Ideal.div (∑ r : Fin 4096, Cert.KernelIdeal.StatsValue.dist T r) ((4096 : ℝ) : EReal) := by
  rw [Cert.ReferenceIdeal.Parts.md_at, Cert.Consts.rows]
  exact congrArg (fun s : EReal => Ideal.div s ((4096 : ℝ) : EReal))
    (Cert.KernelIdeal.Fold.sum_eq fun r => (dist_eq T t hT r).symm)

end Cert.Dist

end
-- ==== Proof.Spread.lean ====
/-
  Both feature arrays as one array of reals: the total squared distance, the bandwidth, and the five Gaussians of one
  squared distance.
-/
module

public import proofs.«01_k».proof.Proof.Reals
public import Mathlib.Analysis.SpecialFunctions.Pow.Real
public import Mathlib.Tactic.FieldSimp

@[expose] public section

noncomputable section

namespace Cert.Spread

open Cert.Reals

/-- A real feature array. -/
abbrev RFeat := Fin 4096 → Fin 1024 → ℝ

/-- The two arrays, one above the other. -/
def both (d s : RFeat) (r : Fin 8192) (k : Fin 1024) : ℝ :=
  if h : r.val < 4096 then d ⟨r, h⟩ k else s ⟨r - 4096, by omega⟩ k

theorem both_left (d s : RFeat) (r : Fin 4096) : both d s ⟨r, by omega⟩ = d r := by
  funext k
  exact dif_pos r.isLt

theorem both_right (d s : RFeat) (r : Fin 4096) : both d s ⟨4096 + r, by omega⟩ = s r := by
  funext k
  refine (dif_neg (by simp)).trans (congrArg (fun q => s q k) (Fin.ext ?_))
  simp

/-- All squared distances, summed. -/
def spread (d s : RFeat) : ℝ := ∑ r, ∑ q, far (both d s r) (both d s q)

theorem spread_nonneg (d s : RFeat) : 0 ≤ spread d s :=
  Finset.sum_nonneg fun _ _ => Finset.sum_nonneg fun _ _ => far_nonneg _ _

/-- The sum by squares and columns. -/
theorem spread_eq (d s : RFeat) :
    spread d s = 16384 * (∑ r, ∑ k, d r k * d r k + ∑ r, ∑ k, s r k * s r k)
      - 2 * ∑ k, (∑ r, d r k + ∑ r, s r k) * (∑ r, d r k + ∑ r, s r k) := by
  rw [spread, sum_far]
  simp only [sum_halves, both_left, both_right]
  norm_num

/-- With nothing to sum, any two rows agree. -/
theorem far_of_spread {d s : RFeat} (h : spread d s = 0) (r q : Fin 8192) : far (both d s r) (both d s q) = 0 := by
  have h1 := (Finset.sum_eq_zero_iff_of_nonneg fun r _ => Finset.sum_nonneg fun q _ => far_nonneg (both d s r) (both d s q)).mp h r
    (Finset.mem_univ r)
  exact (Finset.sum_eq_zero_iff_of_nonneg fun q _ => far_nonneg (both d s r) (both d s q)).mp h1 q (Finset.mem_univ q)

/-- So every row is the first. -/
theorem left_of_spread {d s : RFeat} (h : spread d s = 0) (r : Fin 4096) (k : Fin 1024) : d r k = d 0 k := by
  have := eq_of_far (far_of_spread h ⟨r, by omega⟩ ⟨(0 : Fin 4096), by omega⟩) k
  rwa [both_left, both_left] at this

theorem right_of_spread {d s : RFeat} (h : spread d s = 0) (r : Fin 4096) (k : Fin 1024) : s r k = d 0 k := by
  have := eq_of_far (far_of_spread h ⟨4096 + r, by omega⟩ ⟨(0 : Fin 4096), by omega⟩) k
  rwa [both_left, both_right] at this

/-- The narrowest Gaussian's bandwidth. -/
def width (d s : RFeat) : ℝ := spread d s * (1 / 67100672) * (1 / 4)

/-- The five Gaussians of the squared distance `l`, of bandwidths `b`, `2b`, `4b`, `8b` and `16b`. -/
def bells (b l : ℝ) : ℝ :=
  Real.exp (-l * (1 / (b * 1))) + Real.exp (-l * (1 / (b * 2))) + Real.exp (-l * (1 / (b * 4)))
    + Real.exp (-l * (1 / (b * 8))) + Real.exp (-l * (1 / (b * 16)))

/-- The factor of a squared distance in the widest Gaussian's binary exponent. -/
def slope (d s : RFeat) : ℝ := 1 / 4 * (1 / Real.log 2) * (1 / (spread d s * (1 / 67100672)))

theorem slope_pos {d s : RFeat} (h : 0 < spread d s) : 0 < slope d s := by
  have := Real.log_pos one_lt_two
  unfold slope
  positivity

/-- The widest Gaussian, as a power of two. -/
theorem widest {d s : RFeat} (h : 0 < spread d s) (l : ℝ) :
    Real.rpow 2 (-(slope d s) * l) = Real.exp (-l * (1 / (width d s * 16))) := by
  have h2 : Real.log 2 ≠ 0 := (Real.log_pos one_lt_two).ne'
  have h3 : spread d s ≠ 0 := h.ne'
  show (2 : ℝ) ^ (-(slope d s) * l) = _
  rw [Real.rpow_def_of_pos two_pos]
  congr 1
  unfold slope width
  field_simp
  ring

/-- Each Gaussian is the square of the next wider one. -/
theorem squared {b : ℝ} (hb : b ≠ 0) (l w : ℝ) (hw : w ≠ 0) :
    Real.exp (-l * (1 / (b * (w * 2)))) * Real.exp (-l * (1 / (b * (w * 2)))) = Real.exp (-l * (1 / (b * w))) := by
  rw [← Real.exp_add]
  congr 1
  field_simp
  try ring

theorem bells_eq {b : ℝ} (hb : b ≠ 0) (l e : ℝ) (he : e = Real.exp (-l * (1 / (b * 16)))) :
    e + e * e + e * e * (e * e) + e * e * (e * e) * (e * e * (e * e))
        + e * e * (e * e) * (e * e * (e * e)) * (e * e * (e * e) * (e * e * (e * e)))
      = bells b l := by
  have h8 : e * e = Real.exp (-l * (1 / (b * 8))) := by
    rw [he, show (16 : ℝ) = 8 * 2 by norm_num]; exact squared hb l 8 (by norm_num)
  have h4 : e * e * (e * e) = Real.exp (-l * (1 / (b * 4))) := by
    rw [h8, show (8 : ℝ) = 4 * 2 by norm_num]; exact squared hb l 4 (by norm_num)
  have h2 : e * e * (e * e) * (e * e * (e * e)) = Real.exp (-l * (1 / (b * 2))) := by
    rw [h4, show (4 : ℝ) = 2 * 2 by norm_num]; exact squared hb l 2 (by norm_num)
  have h1 : e * e * (e * e) * (e * e * (e * e)) * (e * e * (e * e) * (e * e * (e * e))) = Real.exp (-l * (1 / (b * 1))) := by
    rw [h2]
    have := squared hb l 1 one_ne_zero
    rwa [one_mul] at this
  rw [h1, h2, h4, h8, he, bells]
  ring

end Cert.Spread

end
-- ==== Proof.MmdKernel.lean ====
/-
  On finite arrays the kernel's discrepancy is a real: the four blocks' sums of Gaussians, from the symmetric halves.
-/
module

public import proofs.«01_k».proof.Proof.KernelValue
public import proofs.«01_k».proof.Proof.Spread
public import Mathlib.Tactic.LinearCombination

@[expose] public section

set_option maxRecDepth 16384

noncomputable section

open Idealize.ShloMosaic Cert.Reals Cert.Spread

namespace Cert.MmdKernel

open Cert.KernelIdeal.Fold Cert.KernelIdeal.StatsValue Cert.KernelIdeal.GramValue

/-- An array whose entries are the reals `x`. -/
def Spells (X : Feat) (x : RFeat) : Prop := ∀ r k, X (ix2 r k) = ((x r k : ℝ) : EReal)

theorem sumSq_coe {X : Feat} {x : RFeat} (hX : Spells X x) (r : Fin 4096) :
    sumSq X r = ((∑ k, x r k * x r k : ℝ) : EReal) := by
  rw [sumSq, ← coe_sum]
  exact sum_eq fun k => by rw [hX, EReal.coe_mul]

theorem colSum_coe {D S : Feat} {d s : RFeat} (hD : Spells D d) (hS : Spells S s) (k : Fin 1024) :
    colSum D S k = ((∑ r, d r k + ∑ r, s r k : ℝ) : EReal) := by
  rw [colSum, EReal.coe_add, ← coe_sum, ← coe_sum]
  exact congrArg₂ (fun a b : EReal => a + b) (sum_eq fun r => hD r k) (sum_eq fun r => hS r k)

theorem sumL2_coe {D S : Feat} {d s : RFeat} (hD : Spells D d) (hS : Spells S s) :
    sumL2 D S = ((spread d s : ℝ) : EReal) := by
  have h1 : ∑ r : Fin 4096, sumSq D r = ((∑ r, ∑ k, d r k * d r k : ℝ) : EReal) := by
    rw [← coe_sum]; exact sum_eq fun r => sumSq_coe hD r
  have h2 : ∑ r : Fin 4096, sumSq S r = ((∑ r, ∑ k, s r k * s r k : ℝ) : EReal) := by
    rw [← coe_sum]; exact sum_eq fun r => sumSq_coe hS r
  have h3 : ∑ k : Fin 1024, colSum D S k * colSum D S k
      = ((∑ k, (∑ r, d r k + ∑ r, s r k) * (∑ r, d r k + ∑ r, s r k) : ℝ) : EReal) := by
    rw [← coe_sum]; exact sum_eq fun k => by rw [colSum_coe hD hS, EReal.coe_mul]
  rw [sumL2, h1, h2, h3, spread_eq, EReal.coe_sub, EReal.coe_mul, EReal.coe_mul, EReal.coe_add]

theorem log_two : Ideal.log ((2 : ℝ) : EReal) = ((Real.log 2 : ℝ) : EReal) := by
  rw [Ideal.log_coe, if_neg (by norm_num)]

theorem unit_coe : Ideal.div ((1 / 4 : ℝ) : EReal) (Ideal.log ((2 : ℝ) : EReal)) = ((1 / 4 * (1 / Real.log 2) : ℝ) : EReal) := by
  rw [log_two, Ideal.div_coe (Real.log_pos one_lt_two).ne', EReal.coe_mul]

theorem mean_coe {D S : Feat} {d s : RFeat} (hD : Spells D d) (hS : Spells S s) :
    Ideal.div (sumL2 D S) ((67100672 : ℝ) : EReal) = ((spread d s * (1 / 67100672) : ℝ) : EReal) := by
  rw [sumL2_coe hD hS, Ideal.div_coe (by norm_num), EReal.coe_mul]

/-- The rate, when some two rows differ. -/
theorem rate_pos {D S : Feat} {d s : RFeat} (hD : Spells D d) (hS : Spells S s) (h : 0 < spread d s) :
    rate D S = ((slope d s : ℝ) : EReal) := by
  rw [rate, unit_coe, mean_coe hD hS, Ideal.div_coe (by positivity), ← EReal.coe_mul]
  rfl

/-- One pair's exponent. -/
theorem exponent {X Y : Feat} {x y : RFeat} (hX : Spells X x) (hY : Spells Y y) {a : ℝ} (ha : 0 < a) (r q : Fin 4096) :
    sumSq X r * -((a : ℝ) : EReal) + sumSq Y q * -((a : ℝ) : EReal)
        + ∑ k : Fin 1024, (X (ix2 r k) * Ideal.sqrt (((2 : ℝ) : EReal) * ((a : ℝ) : EReal)))
            * (Y (ix2 q k) * Ideal.sqrt (((2 : ℝ) : EReal) * ((a : ℝ) : EReal)))
      = ((-a * far (x r) (y q) : ℝ) : EReal) := by
  have hs : Ideal.sqrt (((2 : ℝ) : EReal) * ((a : ℝ) : EReal)) = ((Real.sqrt (2 * a) : ℝ) : EReal) := by
    rw [← EReal.coe_mul, Ideal.sqrt_coe, if_neg (by linarith)]
  have hq : Real.sqrt (2 * a) * Real.sqrt (2 * a) = 2 * a := Real.mul_self_sqrt (by linarith)
  have hc : ∑ k : Fin 1024, (X (ix2 r k) * Ideal.sqrt (((2 : ℝ) : EReal) * ((a : ℝ) : EReal)))
        * (Y (ix2 q k) * Ideal.sqrt (((2 : ℝ) : EReal) * ((a : ℝ) : EReal)))
      = ((2 * a * ∑ k, x r k * y q k : ℝ) : EReal) := by
    rw [Finset.mul_sum, ← coe_sum]
    refine sum_eq fun k => ?_
    rw [hs, hX, hY, ← EReal.coe_mul, ← EReal.coe_mul, ← EReal.coe_mul]
    congr 1
    linear_combination x r k * y q k * hq
  rw [hc, sumSq_coe hX, sumSq_coe hY, ← EReal.coe_neg, ← EReal.coe_mul, ← EReal.coe_mul, ← EReal.coe_add, ← EReal.coe_add, far]
  congr 1
  ring

theorem five_coe (l : ℝ) : five ((l : ℝ) : EReal)
    = ((Real.rpow 2 l + Real.rpow 2 l * Real.rpow 2 l + Real.rpow 2 l * Real.rpow 2 l * (Real.rpow 2 l * Real.rpow 2 l)
        + Real.rpow 2 l * Real.rpow 2 l * (Real.rpow 2 l * Real.rpow 2 l) * (Real.rpow 2 l * Real.rpow 2 l * (Real.rpow 2 l * Real.rpow 2 l))
        + Real.rpow 2 l * Real.rpow 2 l * (Real.rpow 2 l * Real.rpow 2 l) * (Real.rpow 2 l * Real.rpow 2 l * (Real.rpow 2 l * Real.rpow 2 l))
          * (Real.rpow 2 l * Real.rpow 2 l * (Real.rpow 2 l * Real.rpow 2 l) * (Real.rpow 2 l * Real.rpow 2 l * (Real.rpow 2 l * Real.rpow 2 l))) : ℝ) : EReal) := by
  rw [five, Ideal.exp2_coe]
  simp only [EReal.coe_add, EReal.coe_mul]

/-- One pair's Gaussians, when some two rows differ. -/
theorem gauss_pos {D S X Y : Feat} {d s x y : RFeat} (hD : Spells D d) (hS : Spells S s) (h : 0 < spread d s)
    (hX : Spells X x) (hY : Spells Y y) (r q : Fin 4096) :
    gauss (rate D S) X Y r q = ((bells (width d s) (far (x r) (y q)) : ℝ) : EReal) := by
  have ha := slope_pos h
  have hn : -(slope d s) * far (x r) (y q) ≤ 0 := by
    have := mul_nonneg ha.le (far_nonneg (x r) (y q))
    linarith
  have hb : width d s ≠ 0 := by
    unfold width
    positivity
  rw [gauss, rate_pos hD hS h, exponent hX hY ha, min_eq_left (EReal.coe_nonpos.mpr hn), five_coe,
    bells_eq hb _ _ (widest h _)]

/-- Five Gaussians of an exponent at most zero are a real. -/
theorem five_real (l : EReal) : ∃ e : ℝ, five (min l 0) = ((e : ℝ) : EReal) := by
  induction l using EReal.rec with
  | bot =>
    refine ⟨0, ?_⟩
    rw [min_eq_left bot_le, five, Ideal.exp2_bot]
    simp
  | coe l =>
    rw [← EReal.coe_zero, ← EReal.coe_strictMono.monotone.map_min]
    exact ⟨_, five_coe _⟩
  | top =>
    rw [min_eq_right le_top, ← EReal.coe_zero]
    exact ⟨_, five_coe _⟩

/-- When all rows agree, all pairs' Gaussians do. -/
theorem gauss_zero {D S : Feat} {d s : RFeat} (hD : Spells D d) (hS : Spells S s) (h : spread d s = 0) :
    ∃ e : ℝ, ∀ r q, gauss (rate D S) D D r q = ((e : ℝ) : EReal) ∧ gauss (rate D S) S S r q = ((e : ℝ) : EReal)
      ∧ gauss (rate D S) D S r q = ((e : ℝ) : EReal) := by
  have h1 : ∀ r k, D (ix2 r k) = ((d 0 k : ℝ) : EReal) := fun r k => by rw [hD, left_of_spread h]
  have h2 : ∀ r k, S (ix2 r k) = ((d 0 k : ℝ) : EReal) := fun r k => by rw [hS, right_of_spread h]
  obtain ⟨e, he⟩ := five_real ((∑ k : Fin 1024, ((d 0 k : ℝ) : EReal) * ((d 0 k : ℝ) : EReal)) * -rate D S
    + (∑ k : Fin 1024, ((d 0 k : ℝ) : EReal) * ((d 0 k : ℝ) : EReal)) * -rate D S
    + ∑ k : Fin 1024, (((d 0 k : ℝ) : EReal) * Ideal.sqrt (((2 : ℝ) : EReal) * rate D S))
        * (((d 0 k : ℝ) : EReal) * Ideal.sqrt (((2 : ℝ) : EReal) * rate D S)))
  refine ⟨e, fun r q => ⟨?_, ?_, ?_⟩⟩ <;> rw [← he, gauss, sumSq, sumSq] <;> simp only [h1, h2]

/-! ## The sums over tiles -/

theorem gaussTile_coe {a : EReal} {X Y : Feat} {g : Fin 4096 → Fin 4096 → ℝ}
    (h : ∀ r q, gauss a X Y r q = ((g r q : ℝ) : EReal)) (i j : Fin 4) :
    gaussTile a X Y i j = ((tile g i j : ℝ) : EReal) := by
  rw [gaussTile, Reals.tile, ← coe_sum]
  refine sum_eq fun r => ?_
  rw [← coe_sum]
  exact sum_eq fun q => h _ _

theorem symSum_coe {a : EReal} {X : Feat} {g : Fin 4096 → Fin 4096 → ℝ}
    (h : ∀ r q, gauss a X X r q = ((g r q : ℝ) : EReal)) (hg : ∀ r q, g r q = g q r) :
    symSum a X = ((∑ r, ∑ q, g r q : ℝ) : EReal) := by
  rw [sum_tiles, ← twelve (tile_comm hg), symSum, ← coe_sum]
  refine sum_eq fun t => ?_
  rw [gaussTile_coe h, EReal.coe_mul, weight]
  split <;> rfl

theorem crossSum_coe {a : EReal} {X Y : Feat} {g : Fin 4096 → Fin 4096 → ℝ}
    (h : ∀ r q, gauss a X Y r q = ((g r q : ℝ) : EReal)) :
    crossSum a X Y = ((∑ r, ∑ q, g r q : ℝ) : EReal) := by
  rw [sum_tiles, ← sixteen (Reals.tile g), crossSum, ← coe_sum]
  exact sum_eq fun t => by rw [gaussTile_coe h, EReal.coe_one, mul_one]

/-- The kernel's discrepancy. -/
def discrepancy (D S : Feat) : EReal :=
  Ideal.div (symSum (rate D S) D + symSum (rate D S) S - ((2 : ℝ) : EReal) * crossSum (rate D S) D S)
    ((16777216 : ℝ) : EReal)

theorem discrepancy_coe {D S : Feat} {g1 g2 g3 : Fin 4096 → Fin 4096 → ℝ}
    (h1 : ∀ r q, gauss (rate D S) D D r q = ((g1 r q : ℝ) : EReal)) (hg1 : ∀ r q, g1 r q = g1 q r)
    (h2 : ∀ r q, gauss (rate D S) S S r q = ((g2 r q : ℝ) : EReal)) (hg2 : ∀ r q, g2 r q = g2 q r)
    (h3 : ∀ r q, gauss (rate D S) D S r q = ((g3 r q : ℝ) : EReal)) :
    discrepancy D S
      = (((∑ r, ∑ q, g1 r q + ∑ r, ∑ q, g2 r q - 2 * ∑ r, ∑ q, g3 r q) * (1 / 16777216) : ℝ) : EReal) := by
  rw [discrepancy, symSum_coe h1 hg1, symSum_coe h2 hg2, crossSum_coe h3, Ideal.div_coe (by norm_num), ← EReal.coe_add,
    ← EReal.coe_mul, ← EReal.coe_sub, ← EReal.coe_mul]

theorem discrepancy_pos {D S : Feat} {d s : RFeat} (hD : Spells D d) (hS : Spells S s) (h : 0 < spread d s) :
    discrepancy D S
      = (((∑ r, ∑ q, bells (width d s) (far (d r) (d q)) + ∑ r, ∑ q, bells (width d s) (far (s r) (s q))
          - 2 * ∑ r, ∑ q, bells (width d s) (far (d r) (s q))) * (1 / 16777216) : ℝ) : EReal) :=
  discrepancy_coe (gauss_pos hD hS h hD hD) (fun r q => by rw [far_comm]) (gauss_pos hD hS h hS hS)
    (fun r q => by rw [far_comm]) (gauss_pos hD hS h hD hS)

theorem discrepancy_zero {D S : Feat} {d s : RFeat} (hD : Spells D d) (hS : Spells S s) (h : spread d s = 0) :
    discrepancy D S = 0 := by
  obtain ⟨e, he⟩ := gauss_zero hD hS h
  rw [discrepancy_coe (g1 := fun _ _ => e) (g2 := fun _ _ => e) (g3 := fun _ _ => e) (fun r q => (he r q).1) (fun _ _ => rfl)
    (fun r q => (he r q).2.1) (fun _ _ => rfl) fun r q => (he r q).2.2, ← EReal.coe_zero]
  congr 1
  ring

end Cert.MmdKernel

end
-- ==== Proof.MmdReference.lean ====
/-
  On finite arrays the reference's discrepancy is the same real.
-/
module

public import proofs.«01_k».proof.Proof.RefValue
public import proofs.«01_k».proof.Proof.MmdKernel

@[expose] public section

set_option maxRecDepth 16384

noncomputable section

open Idealize.ShloMosaic Cert.Reals Cert.Spread

namespace Cert.MmdReference

open Cert.ReferenceIdeal.Parts Cert.KernelIdeal.Fold Cert.MmdKernel

theorem four : Ideal.ofBits .f32 0x40800000#32 = ((4 : ℝ) : EReal) := by
  simp [Ideal.ofBits, Ideal.ieee, -EReal.coe_mul]; norm_num

theorem eight : Ideal.ofBits .f32 0x41000000#32 = ((8 : ℝ) : EReal) := by
  simp [Ideal.ofBits, Ideal.ieee, -EReal.coe_mul]; norm_num

theorem sixteenth : Ideal.ofBits .f32 0x41800000#32 = ((16 : ℝ) : EReal) := by
  simp [Ideal.ofBits, Ideal.ieee, -EReal.coe_mul]; norm_num

/-- The stacked features. -/
theorem features_coe {D S : Feat} {d s : RFeat} (hD : Spells D d) (hS : Spells S s) (r : Fin 8192) (k : Fin 1024) :
    (show EReal from Cert.ReferenceIdeal.Value.fn_main_v20 (F := Ideal) D S (ix2 r k)) = ((both d s r k : ℝ) : EReal) := by
  refine (features_at D S r k).trans ?_
  unfold both
  split
  · exact hD _ _
  · exact hS _ _

section
variable {X : (⟨2, ![8192, 1024]⟩ : Shape).Idx → EReal} {d s : RFeat}
  (hX : ∀ r k, X (ix2 r k) = ((both d s r k : ℝ) : EReal))

include hX

theorem dot_coe (r q : Fin 8192) :
    ∑ k : Fin 1024, X (ix2 r k) * X (ix2 q k) = ((∑ k, both d s r k * both d s q k : ℝ) : EReal) := by
  rw [← coe_sum]
  exact sum_eq fun k => by rw [hX, hX, EReal.coe_mul]

theorem l2_coe (r q : Fin 8192) :
    (show EReal from l2 X (ix2 r q)) = ((far (both d s r) (both d s q) : ℝ) : EReal) := by
  refine (l2_at X r q).trans ?_
  rw [dot_coe hX, dot_coe hX, dot_coe hX, Cert.Consts.two, ← EReal.coe_add, ← EReal.coe_mul, ← EReal.coe_sub]
  exact max_eq_left (EReal.coe_nonneg.mpr (far_nonneg _ _))

theorem bandwidth_coe (i : (⟨0, ![]⟩ : Shape).Idx) :
    (show EReal from bandwidth (l2 X) i) = ((width d s : ℝ) : EReal) := by
  have h : ∑ r : Fin 8192, ∑ q : Fin 8192, (show EReal from l2 X (ix2 r q)) = ((spread d s : ℝ) : EReal) := by
    rw [spread, ← coe_sum]
    refine sum_eq fun r => ?_
    rw [← coe_sum]
    exact sum_eq fun q => l2_coe hX r q
  refine (bandwidth_at (l2 X) i).trans ?_
  refine (congrArg (fun t : EReal => Ideal.div (Ideal.div t (Ideal.ofBits .f32 0x4C7FF800#32)) (Ideal.ofBits .f32 0x40800000#32)) h).trans ?_
  rw [Cert.Consts.pairs, four, Ideal.div_coe (by norm_num), Ideal.div_coe (by norm_num), ← EReal.coe_mul, ← EReal.coe_mul]
  rfl

/-- One Gaussian at a pair. -/
theorem kern_coe (w : BitVec 32) (r q : Fin 8192) :
    (show EReal from kern w (l2 X) (bandwidth (l2 X)) (ix2 r q))
      = Ideal.exp (Ideal.div (-((far (both d s r) (both d s q) : ℝ) : EReal)) (((width d s : ℝ) : EReal) * Ideal.ofBits .f32 w)) := by
  refine (kern_at w (l2 X) (bandwidth (l2 X)) r q).trans ?_
  exact congrArg₂ (fun a b : EReal => Ideal.exp (Ideal.div (-a) (b * Ideal.ofBits .f32 w))) (l2_coe hX r q) (bandwidth_coe hX ix0)

theorem kern_pos (h : 0 < spread d s) {w : BitVec 32} {v : ℝ} (hw : Ideal.ofBits .f32 w = ((v : ℝ) : EReal)) (hv : 0 < v)
    (r q : Fin 8192) :
    (show EReal from kern w (l2 X) (bandwidth (l2 X)) (ix2 r q))
      = ((Real.exp (-far (both d s r) (both d s q) * (1 / (width d s * v))) : ℝ) : EReal) := by
  have hb : width d s * v ≠ 0 := by
    unfold width
    positivity
  rw [kern_coe hX, hw, ← EReal.coe_mul, Ideal.div_coe hb, ← EReal.coe_neg, ← EReal.coe_mul, Ideal.exp_coe]

theorem kern_zero (h : spread d s = 0) {w : BitVec 32} {v : ℝ} (hw : Ideal.ofBits .f32 w = ((v : ℝ) : EReal))
    (r q : Fin 8192) :
    (show EReal from kern w (l2 X) (bandwidth (l2 X)) (ix2 r q)) = 0 := by
  have hb : width d s = 0 := by rw [width, h]; ring
  rw [kern_coe hX, hw, hb, far_of_spread h, EReal.coe_zero, neg_zero, zero_mul]
  have : Ideal.div 0 0 = ⊥ := by simp [Ideal.div]
  rw [this, Ideal.exp_bot]

theorem kernels_pos (h : 0 < spread d s) (r q : Fin 8192) :
    (show EReal from kernelsOf X (ix2 r q)) = ((bells (width d s) (far (both d s r) (both d s q)) : ℝ) : EReal) := by
  refine (kernels_at (l2 X) (bandwidth (l2 X)) r q).trans ?_
  rw [kern_pos hX h Cert.Consts.one one_pos, kern_pos hX h Cert.Consts.two two_pos, kern_pos hX h four four_pos,
    kern_pos hX h eight (by norm_num), kern_pos hX h sixteenth (by norm_num), bells]
  simp only [EReal.coe_add]

theorem kernels_zero (h : spread d s = 0) (r q : Fin 8192) :
    (show EReal from kernelsOf X (ix2 r q)) = ((0 : ℝ) : EReal) := by
  refine (kernels_at (l2 X) (bandwidth (l2 X)) r q).trans ?_
  rw [kern_zero hX h Cert.Consts.one, kern_zero hX h Cert.Consts.two, kern_zero hX h four,
    kern_zero hX h eight, kern_zero hX h sixteenth]
  simp

end

/-- A block's mean. -/
theorem block_coe {f : Fin 4096 → Fin 4096 → EReal} {g : Fin 4096 → Fin 4096 → ℝ} (h : ∀ r q, f r q = ((g r q : ℝ) : EReal)) :
    Ideal.div (∑ r : Fin 4096, ∑ q : Fin 4096, f r q) (Ideal.ofBits .f32 0x4B800000#32)
      = (((∑ r, ∑ q, g r q) * (1 / 16777216) : ℝ) : EReal) := by
  have hs : ∑ r : Fin 4096, ∑ q : Fin 4096, f r q = ((∑ r, ∑ q, g r q : ℝ) : EReal) := by
    rw [← coe_sum]
    refine sum_eq fun r => ?_
    rw [← coe_sum]
    exact sum_eq fun q => h r q
  rw [hs, Cert.Consts.square, Ideal.div_coe (by norm_num), ← EReal.coe_mul]

/-- The four means of an array of reals. -/
theorem mmd_coe {K : (⟨2, ![8192, 8192]⟩ : Shape).Idx → EReal} {g : Fin 8192 → Fin 8192 → ℝ}
    (h : ∀ r q, K (ix2 r q) = ((g r q : ℝ) : EReal)) (i : (⟨0, ![]⟩ : Shape).Idx) :
    (show EReal from mmd K i)
      = (((∑ r : Fin 4096, ∑ q : Fin 4096, g ⟨r, by omega⟩ ⟨q, by omega⟩) * (1 / 16777216)
          + (∑ r : Fin 4096, ∑ q : Fin 4096, g ⟨4096 + r, by omega⟩ ⟨4096 + q, by omega⟩) * (1 / 16777216)
          - (∑ r : Fin 4096, ∑ q : Fin 4096, g ⟨r, by omega⟩ ⟨4096 + q, by omega⟩) * (1 / 16777216)
          - (∑ r : Fin 4096, ∑ q : Fin 4096, g ⟨4096 + r, by omega⟩ ⟨q, by omega⟩) * (1 / 16777216) : ℝ) : EReal) := by
  refine (mmd_at K i).trans ?_
  rw [EReal.coe_sub, EReal.coe_sub, EReal.coe_add]
  rw [← block_coe (f := fun r q => K (ix2 ⟨r, by omega⟩ ⟨q, by omega⟩)) fun r q => h _ _,
    ← block_coe (f := fun r q => K (ix2 ⟨4096 + r, by omega⟩ ⟨4096 + q, by omega⟩)) fun r q => h _ _,
    ← block_coe (f := fun r q => K (ix2 ⟨r, by omega⟩ ⟨4096 + q, by omega⟩)) fun r q => h _ _,
    ← block_coe (f := fun r q => K (ix2 ⟨4096 + r, by omega⟩ ⟨q, by omega⟩)) fun r q => h _ _]

/-- The two discrepancies. -/
theorem mmd_eq {D S : Feat} {d s : RFeat} (hD : Spells D d) (hS : Spells S s) (i : (⟨0, ![]⟩ : Shape).Idx) :
    (show EReal from mmd (kernelsOf (Cert.ReferenceIdeal.Value.fn_main_v20 (F := Ideal) D S)) i) = discrepancy D S := by
  rcases (spread_nonneg d s).eq_or_lt with h | h
  · rw [discrepancy_zero hD hS h.symm]
    refine (mmd_coe (g := fun _ _ => 0) (kernels_zero (features_coe hD hS) h.symm) i).trans ?_
    simp
  · rw [discrepancy_pos hD hS h]
    refine (mmd_coe (kernels_pos (features_coe hD hS) h) i).trans ?_
    simp only [both_left, both_right]
    congr 1
    have hc : ∑ r, ∑ q, bells (width d s) (far (s r) (d q)) = ∑ r, ∑ q, bells (width d s) (far (d r) (s q)) := by
      rw [Finset.sum_comm]
      exact Finset.sum_congr rfl fun r _ => Finset.sum_congr rfl fun q _ => by rw [far_comm]
    rw [hc]
    ring

end Cert.MmdReference

end
-- ==== Proof.Equal.lean ====
/-
  The two results, as expressions of the arguments, agree where the targets are classes and the arrays are finite.
-/
module

public import proofs.«01_k».proof.Proof.Pick
public import proofs.«01_k».proof.Proof.Dist
public import proofs.«01_k».proof.Proof.MmdReference

@[expose] public section

set_option maxRecDepth 16384

noncomputable section

open Idealize.ShloMosaic

namespace Cert.Equal

open Cert.KernelIdeal.Fold Cert.MmdKernel

theorem out_eq {P : (⟨2, ![4096, 40]⟩ : Shape).Idx → EReal} {tg : (⟨1, ![4096]⟩ : Shape).Idx → BitVec 32}
    {T : (⟨3, ![4096, 64, 64]⟩ : Shape).Idx → EReal} {D S : Feat}
    (htg : ∀ r : Fin 4096, 0 ≤ (tg (ix1 r)).toInt ∧ (tg (ix1 r)).toInt < 40)
    {t : Fin 4096 → Fin 64 → Fin 64 → ℝ} (hT : ∀ r a k, T (ix3 r a k) = ((t r a k : ℝ) : EReal))
    {d s : Spread.RFeat} (hD : Spells D d) (hS : Spells S s) (i : (⟨0, ![]⟩ : Shape).Idx) :
    (show EReal from Cert.ReferenceIdeal.Parts.out P tg T D S i) = result P (column tg) T D S := by
  refine (Cert.ReferenceIdeal.Parts.out_at P tg T D S i).trans ?_
  rw [result, combine]
  refine congrArg₂ (fun a b : EReal => a + b) (congrArg₂ (fun a b : EReal => a + b) ?_ ?_) ?_
  · exact congrArg (fun a : EReal => Ideal.ofBits .f32 0x3DCCCCCD#32 * a) (Pick.nll_eq P tg htg i)
  · rw [mul_comm]
    exact congrArg (fun a : EReal => Ideal.ofBits .f32 0x3A83126F#32 * a) (Dist.md_eq T t hT i)
  · exact congrArg (fun a : EReal => Ideal.ofBits .f32 0x3F000000#32 * a) (MmdReference.mmd_eq hD hS i)

end Cert.Equal

end
-- ==== Proof.Domain.lean ====
/-
  The precondition read entry by entry: targets are classes, and the three feature arrays hold reals.
-/
module

public import proofs.«01_k».proof.Pre_finite_in_range
public import Idealize.ShloMosaic.Lib.Pipeline.ValueKit
public import Idealize.ShloMosaic.Lib.WordCmp
public import Idealize.ShloMosaic.PureOps.Ideal

@[expose] public section

noncomputable section

open Idealize.ShloMosaic

namespace Cert.Domain

open Cert.Pre_finite_in_range

/-- The shape facts the predicate states. -/
theorem facts : Cert.Pre_finite_in_range.Facts where
  bcast_S_S4096 := by decide
  bcast_S_S4096x64x64 := by decide
  bcast_S_S4096x1024 := by decide

theorem of_bit {p : Bool} (h : BitVec.ofBool p = 1#1) : p = true := by
  cases p
  · exact absurd h (by decide)
  · rfl

theorem infinity : Ideal.ofBits .f32 0x7F800000#32 = ⊤ := by
  simp [Ideal.ofBits, Ideal.ieee]

/-- An entry whose magnitude is below infinity is a real. -/
theorem real_of {x : EReal} (h : Ideal.cmp .olt (max x (-x)) (Ideal.ofBits .f32 0x7F800000#32) = 1#1) :
    ∃ r : ℝ, x = ((r : ℝ) : EReal) := by
  have h1 : max x (-x) < ⊤ := by
    rw [← infinity]
    exact of_decide_eq_true (of_bit h)
  induction x using EReal.rec with
  | bot => exact absurd h1 (by simp)
  | coe r => exact ⟨r, rfl⟩
  | top => exact absurd h1 (by simp)

theorem range_of {t : BitVec 32} (h : IntOp.andi (IntOp.cmpi .sge t 0#32) (IntOp.cmpi .slt t 40#32) = 1#1) :
    0 ≤ t.toInt ∧ t.toInt < 40 := by
  rw [WordCmp.cmpi_sge_eq, WordCmp.cmpi_slt_eq] at h
  have h2 : (decide ((0#32).toInt ≤ t.toInt) && decide (t.toInt < (40#32).toInt)) = true := of_bit (by
    rw [← h]
    cases decide ((0#32).toInt ≤ t.toInt) <;> cases decide (t.toInt < (40#32).toInt) <;> rfl)
  rw [Bool.and_eq_true, decide_eq_true_eq, decide_eq_true_eq] at h2
  exact h2

variable [Cert.Pre_finite_in_range.Facts] {P : S4096x40.Idx → EReal} {tg : S4096.Idx → BitVec 32} {T : S4096x64x64.Idx → EReal}
  {D S : S4096x1024.Idx → EReal}

theorem targets (h : (fn (F := Ideal) P tg T D S).1 = fun _ => 1#1) (r : Fin 4096) :
    0 ≤ (tg (ix1 r)).toInt ∧ (tg (ix1 r)).toInt < 40 :=
  range_of (congrFun h (ix1 r))

theorem reals_trans (h : (fn (F := Ideal) P tg T D S).2.1 = fun _ => 1#1) :
    ∃ t : Fin 4096 → Fin 64 → Fin 64 → ℝ, ∀ r a k, T (ix3 r a k) = ((t r a k : ℝ) : EReal) := by
  have : ∀ r a k, ∃ v : ℝ, T (ix3 r a k) = ((v : ℝ) : EReal) := fun r a k => real_of (congrFun h (ix3 r a k))
  choose t ht using this
  exact ⟨t, ht⟩

theorem reals_dense (h : (fn (F := Ideal) P tg T D S).2.2.1 = fun _ => 1#1) :
    ∃ d : Fin 4096 → Fin 1024 → ℝ, ∀ r k, D (ix2 r k) = ((d r k : ℝ) : EReal) := by
  have : ∀ r k, ∃ v : ℝ, D (ix2 r k) = ((v : ℝ) : EReal) := fun r k => real_of (congrFun h (ix2 r k))
  choose d hd using this
  exact ⟨d, hd⟩

theorem reals_sparse (h : (fn (F := Ideal) P tg T D S).2.2.2 = fun _ => 1#1) :
    ∃ s : Fin 4096 → Fin 1024 → ℝ, ∀ r k, S (ix2 r k) = ((s r k : ℝ) : EReal) := by
  have : ∀ r k, ∃ v : ℝ, S (ix2 r k) = ((v : ℝ) : EReal) := fun r k => real_of (congrFun h (ix2 r k))
  choose s hs using this
  exact ⟨s, hs⟩

end Cert.Domain

end
-- ==== Proof.Algebra.lean ====
/-
  The value claim: from memories that agree on the arguments, the two idealized programs end with one result.
-/
module

public import proofs.«01_k».proof.Defs
public import proofs.«01_k».proof.Proof.KernelRun
public import proofs.«01_k».proof.Proof.Equal
public import proofs.«01_k».proof.Proof.Domain

@[expose] public section

set_option maxRecDepth 16384

noncomputable section

open Idealize.ShloMosaic Idealize.ShloMosaic.TcCoe Idealize.SL.Sem

namespace Cert.Proof

theorem algebra (h : Cert.Pre_finite_in_range.Facts) :
    Cert.algebraic_KernelIdeal_ReferenceIdeal_pre_finite_in_range (hPre_finite_in_range := h) := by
  intro m g m' g' hpre hagree
  refine ⟨fun c => Cert.KernelIdeal.Gen.W9 m g c (Proc.devRef .tc Cert.KernelIdeal.main_v55), ?_, ?_⟩
  · exact (θ_run Cert.KernelIdeal.defs _ _).mono (fun r hr => hr.1) (Cert.KernelIdeal.RunValue.run m g)
  · refine (θ_run Cert.ReferenceIdeal.defs _ _).mono (fun r hr c => ⟨(hr c).1.trans ?_, (hr c).2⟩)
      (Cert.ReferenceIdeal.Value.run (F := Ideal) m' g')
    obtain ⟨h1, h2, h3, h4⟩ := hpre c
    obtain ⟨e0, e1, e2, e3, e4⟩ := hagree c
    obtain ⟨t, ht⟩ := Cert.Domain.reals_trans h2
    obtain ⟨d, hd⟩ := Cert.Domain.reals_dense h3
    obtain ⟨s, hs⟩ := Cert.Domain.reals_sparse h4
    refine (Cert.ReferenceIdeal.Parts.out_eq m' c).trans ?_
    rw [e0, e1, e2, e3, e4]
    funext i
    exact (Cert.Equal.out_eq (Cert.Domain.targets h1) ht hd hs i).trans (Cert.KernelIdeal.Fold.value m g c i).symm

end Cert.Proof

end
-- ==== Proof.lean ====
/-
  The certificate: the five claims from the frames and the value theorem. The two frames under the precondition are the
  frames that hold of every memory.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Domain.facts,
    frame_kernel, frame_kernelIdeal, fun m ρ _ => Cert.KernelIdeal.Gen.frame m ρ, frame_referenceIdeal,
    fun m ρ _ => frame_referenceIdeal m ρ trivial, trivial, algebra Cert.Domain.facts⟩

end Cert.Proof

end
